-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 4096]⟩ ⟨2, ![1024, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S128x4096 : Shape := ⟨2, ![128, 4096]⟩
abbrev S2x4x128x4096 : Shape := ⟨4, ![2, 4, 128, 4096]⟩
abbrev S2x128x4096 : Shape := ⟨3, ![2, 128, 4096]⟩
abbrev S2x3x2 : Shape := ⟨3, ![2, 3, 2]⟩
abbrev S2 : Shape := ⟨1, ![2]⟩
abbrev S1x8 : Shape := ⟨2, ![1, 8]⟩
abbrev S1x1x8 : Shape := ⟨3, ![1, 1, 8]⟩
abbrev S1 : Shape := ⟨1, ![1]⟩
abbrev S1x1x1 : Shape := ⟨3, ![1, 1, 1]⟩
abbrev S_ : Shape := ⟨0, ![]⟩
abbrev S1024x128 : Shape := ⟨2, ![1024, 128]⟩
abbrev S1x1x128x4096 : Shape := ⟨4, ![1, 1, 128, 4096]⟩
abbrev S1x1x64x4096 : Shape := ⟨4, ![1, 1, 64, 4096]⟩
abbrev S64x4096 : Shape := ⟨2, ![64, 4096]⟩
abbrev S1x128x4096 : Shape := ⟨3, ![1, 128, 4096]⟩
abbrev S1x64x4096 : Shape := ⟨3, ![1, 64, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S128x4096, .f32⟩
  | .local _ .vmem, ⟨0, _⟩ => ⟨S1024x1024, .f32⟩
  | .local _ .vmem, ⟨1, _⟩ => ⟨S1024x4096, .f32⟩
  | .local _ .vmem, ⟨2, _⟩ => ⟨S128x4096, .f32⟩
  | .local _ .vmem, ⟨3, _⟩ => ⟨S2x4x128x4096, .f32⟩
  | .local _ .vmem, ⟨4, _⟩ => ⟨S2x128x4096, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (v54 : BitVec 32) : Nat :=
  let c0_i32_43 : BitVec 32 := 0#32
  let c1_i32_42 : BitVec 32 := 1#32
  let v106 : BitVec 32 := Scalar.muli v54 c1_i32_42
  let v107 : BitVec 32 := Scalar.addi c0_i32_43 v106
  v107.toNat

def k0_dev2 (v35 : BitVec 32) : Nat :=
  let c0_i32_46 : BitVec 32 := 0#32
  let c1_i32_45 : BitVec 32 := 1#32
  let v108 : BitVec 32 := Scalar.muli v35 c1_i32_45
  let v109 : BitVec 32 := Scalar.addi c0_i32_46 v108
  v109.toNat

def k0_dev3 (v16 : BitVec 32) (v84 : BitVec 32) (v103 : BitVec 32) : Nat :=
  let c0_i32_49 : BitVec 32 := 0#32
  let c2_i32 : BitVec 32 := 2#32
  let c0_i32_18 : BitVec 32 := 0#32
  let v55 : BitVec 1 := Scalar.cmpi .eq c2_i32 c0_i32_18
  let c1_i32_19 : BitVec 32 := 1#32
  let v56 : BitVec 32 := Scalar.select v55 c1_i32_19 c2_i32
  let v57 : BitVec 32 := Scalar.remsi v16 v56
  let c0_i32_21 : BitVec 32 := 0#32
  let v59 : BitVec 1 := Scalar.cmpi .slt v57 c0_i32_21
  let c0_i32_22 : BitVec 32 := 0#32
  let v60 : BitVec 1 := Scalar.cmpi .slt v56 c0_i32_22
  let v61 : BitVec 1 := Scalar.xori v59 v60
  let c0_i32_20 : BitVec 32 := 0#32
  let v58 : BitVec 1 := Scalar.cmpi .ne v57 c0_i32_20
  let v62 : BitVec 1 := Scalar.andi v61 v58
  let v63 : BitVec 32 := Scalar.addi v57 v56
  let v64 : BitVec 32 := Scalar.select v62 v63 v57
  let c0_i32_23 : BitVec 32 := 0#32
  let v65 : BitVec 1 := Scalar.cmpi .eq v64 c0_i32_23
  let v104 : BitVec 32 := Scalar.select v65 v84 v103
  let c1_i32_48 : BitVec 32 := 1#32
  let v110 : BitVec 32 := Scalar.muli v104 c1_i32_48
  let v111 : BitVec 32 := Scalar.addi c0_i32_49 v110
  v111.toNat

def k0_off1 (v130 : BitVec 32) : Fin 2 → Nat :=
  let c0 : Index := 0#32
  let c128_i32 : BitVec 32 := 128#32
  let v131 : BitVec 32 := Scalar.muli v130 c128_i32
  let v132 : Index := Scalar.indexCast v131
  ![0, v132.toNat]

def k0_chk4 (v130 : BitVec 32) : Prop :=
  (∀ a, (k0_off1 v130) a + S1024x128.size a ≤ S1024x1024.size a)
theorem k0_off1_inb : ∀ (v130 : BitVec 32) (k0_hw4 : k0_chk4 v130), ∀ a, (k0_off1 v130) a + S1024x128.size a ≤ S1024x1024.size a := fun v130 k0_hw4 => k0_hw4

def k0_dev4 (v35 : BitVec 32) : Nat :=
  let c0_i32_78 : BitVec 32 := 0#32
  let c1_i32_77 : BitVec 32 := 1#32
  let v141 : BitVec 32 := Scalar.muli v35 c1_i32_77
  let v142 : BitVec 32 := Scalar.addi c0_i32_78 v141
  v142.toNat
def k0_dev5 (v35 : BitVec 32) : Nat :=
  let c0_i32_94 : BitVec 32 := 0#32
  let c1_i32_93 : BitVec 32 := 1#32
  let v151 : BitVec 32 := Scalar.muli v35 c1_i32_93
  let v152 : BitVec 32 := Scalar.addi c0_i32_94 v151
  v152.toNat
def k0_off2 (v179 : BitVec 32) : Fin 2 → Nat :=
  let c0_108 : Index := 0#32
  let c128_i32_107 : BitVec 32 := 128#32
  let v180 : BitVec 32 := Scalar.muli v179 c128_i32_107
  let v181 : Index := Scalar.indexCast v180
  ![0, v181.toNat]

def k0_chk5 (v179 : BitVec 32) : Prop :=
  (∀ a, (k0_off2 v179) a + S1024x128.size a ≤ S1024x1024.size a)
theorem k0_off2_inb : ∀ (v179 : BitVec 32) (k0_hw5 : k0_chk5 v179), ∀ a, (k0_off2 v179) a + S1024x128.size a ≤ S1024x1024.size a := fun v179 k0_hw5 => k0_hw5

def k0_dev6 (v54 : BitVec 32) : Nat :=
  let c0_i32_126 : BitVec 32 := 0#32
  let c1_i32_125 : BitVec 32 := 1#32
  let v190 : BitVec 32 := Scalar.muli v54 c1_i32_125
  let v191 : BitVec 32 := Scalar.addi c0_i32_126 v190
  v191.toNat
def k0_dev7 (v54 : BitVec 32) : Nat :=
  let c0_i32_142 : BitVec 32 := 0#32
  let c1_i32_141 : BitVec 32 := 1#32
  let v200 : BitVec 32 := Scalar.muli v54 c1_i32_141
  let v201 : BitVec 32 := Scalar.addi c0_i32_142 v200
  v201.toNat
def k0_off3 (v228 : BitVec 32) : Fin 2 → Nat :=
  let c0_157 : Index := 0#32
  let c128_i32_156 : BitVec 32 := 128#32
  let v229 : BitVec 32 := Scalar.muli v228 c128_i32_156
  let v230 : Index := Scalar.indexCast v229
  ![0, v230.toNat]

def k0_chk6 (v228 : BitVec 32) : Prop :=
  (∀ a, (k0_off3 v228) a + S1024x128.size a ≤ S1024x1024.size a)
theorem k0_off3_inb : ∀ (v228 : BitVec 32) (k0_hw6 : k0_chk6 v228), ∀ a, (k0_off3 v228) a + S1024x128.size a ≤ S1024x1024.size a := fun v228 k0_hw6 => k0_hw6

def k0_dev8 (v16 : BitVec 32) (v84 : BitVec 32) (v103 : BitVec 32) : Nat :=
  let c0_i32_169 : BitVec 32 := 0#32
  let c2_i32 : BitVec 32 := 2#32
  let c0_i32_18 : BitVec 32 := 0#32
  let v55 : BitVec 1 := Scalar.cmpi .eq c2_i32 c0_i32_18
  let c1_i32_19 : BitVec 32 := 1#32
  let v56 : BitVec 32 := Scalar.select v55 c1_i32_19 c2_i32
  let v57 : BitVec 32 := Scalar.remsi v16 v56
  let c0_i32_21 : BitVec 32 := 0#32
  let v59 : BitVec 1 := Scalar.cmpi .slt v57 c0_i32_21
  let c0_i32_22 : BitVec 32 := 0#32
  let v60 : BitVec 1 := Scalar.cmpi .slt v56 c0_i32_22
  let v61 : BitVec 1 := Scalar.xori v59 v60
  let c0_i32_20 : BitVec 32 := 0#32
  let v58 : BitVec 1 := Scalar.cmpi .ne v57 c0_i32_20
  let v62 : BitVec 1 := Scalar.andi v61 v58
  let v63 : BitVec 32 := Scalar.addi v57 v56
  let v64 : BitVec 32 := Scalar.select v62 v63 v57
  let c0_i32_23 : BitVec 32 := 0#32
  let v65 : BitVec 1 := Scalar.cmpi .eq v64 c0_i32_23
  let v104 : BitVec 32 := Scalar.select v65 v84 v103
  let c1_i32_168 : BitVec 32 := 1#32
  let v239 : BitVec 32 := Scalar.muli v104 c1_i32_168
  let v240 : BitVec 32 := Scalar.addi c0_i32_169 v239
  v240.toNat
def k0_dev9 (v16 : BitVec 32) (v84 : BitVec 32) (v103 : BitVec 32) : Nat :=
  let c0_i32_179 : BitVec 32 := 0#32
  let c2_i32 : BitVec 32 := 2#32
  let c0_i32_18 : BitVec 32 := 0#32
  let v55 : BitVec 1 := Scalar.cmpi .eq c2_i32 c0_i32_18
  let c1_i32_19 : BitVec 32 := 1#32
  let v56 : BitVec 32 := Scalar.select v55 c1_i32_19 c2_i32
  let v57 : BitVec 32 := Scalar.remsi v16 v56
  let c0_i32_21 : BitVec 32 := 0#32
  let v59 : BitVec 1 := Scalar.cmpi .slt v57 c0_i32_21
  let c0_i32_22 : BitVec 32 := 0#32
  let v60 : BitVec 1 := Scalar.cmpi .slt v56 c0_i32_22
  let v61 : BitVec 1 := Scalar.xori v59 v60
  let c0_i32_20 : BitVec 32 := 0#32
  let v58 : BitVec 1 := Scalar.cmpi .ne v57 c0_i32_20
  let v62 : BitVec 1 := Scalar.andi v61 v58
  let v63 : BitVec 32 := Scalar.addi v57 v56
  let v64 : BitVec 32 := Scalar.select v62 v63 v57
  let c0_i32_23 : BitVec 32 := 0#32
  let v65 : BitVec 1 := Scalar.cmpi .eq v64 c0_i32_23
  let v104 : BitVec 32 := Scalar.select v65 v84 v103
  let c1_i32_178 : BitVec 32 := 1#32
  let v249 : BitVec 32 := Scalar.muli v104 c1_i32_178
  let v250 : BitVec 32 := Scalar.addi c0_i32_179 v249
  v250.toNat

def k0_chk3 (v16 : BitVec 32) (v84 : BitVec 32) (v103 : BitVec 32) : Prop :=
  ((k0_dev3 v16 v84 v103) < nD) ∧
  ((k0_dev8 v16 v84 v103) < nD) ∧
  ((k0_dev9 v16 v84 v103) < nD)
theorem k0_dev3_lt : ∀ (v16 : BitVec 32) (v84 : BitVec 32) (v103 : BitVec 32) (k0_hw3 : k0_chk3 v16 v84 v103), (k0_dev3 v16 v84 v103) < nD := fun v16 v84 v103 k0_hw3 => k0_hw3.1
theorem k0_dev8_lt : ∀ (v16 : BitVec 32) (v84 : BitVec 32) (v103 : BitVec 32) (k0_hw3 : k0_chk3 v16 v84 v103), (k0_dev8 v16 v84 v103) < nD := fun v16 v84 v103 k0_hw3 => k0_hw3.2.1
theorem k0_dev9_lt : ∀ (v16 : BitVec 32) (v84 : BitVec 32) (v103 : BitVec 32) (k0_hw3 : k0_chk3 v16 v84 v103), (k0_dev9 v16 v84 v103) < nD := fun v16 v84 v103 k0_hw3 => k0_hw3.2.2

def k0_off4 (v277 : BitVec 32) : Fin 2 → Nat :=
  let c0_194 : Index := 0#32
  let c128_i32_193 : BitVec 32 := 128#32
  let v278 : BitVec 32 := Scalar.muli v277 c128_i32_193
  let v279 : Index := Scalar.indexCast v278
  ![0, v279.toNat]

def k0_chk7 (v277 : BitVec 32) : Prop :=
  (∀ a, (k0_off4 v277) a + S1024x128.size a ≤ S1024x1024.size a)
theorem k0_off4_inb : ∀ (v277 : BitVec 32) (k0_hw7 : k0_chk7 v277), ∀ a, (k0_off4 v277) a + S1024x128.size a ≤ S1024x1024.size a := fun v277 k0_hw7 => k0_hw7

def k0_off5 (v303 : BitVec 32) : Fin 2 → Nat :=
  let c0_207 : Index := 0#32
  let c128_i32_206 : BitVec 32 := 128#32
  let v304 : BitVec 32 := Scalar.muli v303 c128_i32_206
  let v305 : Index := Scalar.indexCast v304
  ![0, v305.toNat]

def k0_chk8 (v303 : BitVec 32) : Prop :=
  (∀ a, (k0_off5 v303) a + S1024x128.size a ≤ S1024x1024.size a)
theorem k0_off5_inb : ∀ (v303 : BitVec 32) (k0_hw8 : k0_chk8 v303), ∀ a, (k0_off5 v303) a + S1024x128.size a ≤ S1024x1024.size a := fun v303 k0_hw8 => k0_hw8

def k0_off6 (v329 : BitVec 32) : Fin 2 → Nat :=
  let c0_221 : Index := 0#32
  let c128_i32_220 : BitVec 32 := 128#32
  let v330 : BitVec 32 := Scalar.muli v329 c128_i32_220
  let v331 : Index := Scalar.indexCast v330
  ![0, v331.toNat]

def k0_chk9 (v329 : BitVec 32) : Prop :=
  (∀ a, (k0_off6 v329) a + S1024x128.size a ≤ S1024x1024.size a)
theorem k0_off6_inb : ∀ (v329 : BitVec 32) (k0_hw9 : k0_chk9 v329), ∀ a, (k0_off6 v329) a + S1024x128.size a ≤ S1024x1024.size a := fun v329 k0_hw9 => k0_hw9

def k0_off7 (v355 : BitVec 32) : Fin 2 → Nat :=
  let c0_234 : Index := 0#32
  let c128_i32_233 : BitVec 32 := 128#32
  let v356 : BitVec 32 := Scalar.muli v355 c128_i32_233
  let v357 : Index := Scalar.indexCast v356
  ![0, v357.toNat]

def k0_chk10 (v355 : BitVec 32) : Prop :=
  (∀ a, (k0_off7 v355) a + S1024x128.size a ≤ S1024x1024.size a)
theorem k0_off7_inb : ∀ (v355 : BitVec 32) (k0_hw10 : k0_chk10 v355), ∀ a, (k0_off7 v355) a + S1024x128.size a ≤ S1024x1024.size a := fun v355 k0_hw10 => k0_hw10

def k0_off8 (d0 : Dev nD) : Fin 2 → Nat :=
  let c0_239 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_238 : BitVec 32 := 128#32
  let v363 : BitVec 32 := Scalar.muli v2 c128_i32_238
  let v364 : Index := Scalar.indexCast v363
  ![0, v364.toNat]
def k0_dev10 (v35 : BitVec 32) : Nat :=
  let c0_i32_293 : BitVec 32 := 0#32
  let c1_i32_292 : BitVec 32 := 1#32
  let v391 : BitVec 32 := Scalar.muli v35 c1_i32_292
  let v392 : BitVec 32 := Scalar.addi c0_i32_293 v391
  v392.toNat
def k0_dev11 (v35 : BitVec 32) : Nat :=
  let c0_i32_347 : BitVec 32 := 0#32
  let c1_i32_346 : BitVec 32 := 1#32
  let v422 : BitVec 32 := Scalar.muli v35 c1_i32_346
  let v423 : BitVec 32 := Scalar.addi c0_i32_347 v422
  v423.toNat
def k0_dev12 (v54 : BitVec 32) : Nat :=
  let c0_i32_402 : BitVec 32 := 0#32
  let c1_i32_401 : BitVec 32 := 1#32
  let v453 : BitVec 32 := Scalar.muli v54 c1_i32_401
  let v454 : BitVec 32 := Scalar.addi c0_i32_402 v453
  v454.toNat
def k0_dev13 (v54 : BitVec 32) : Nat :=
  let c0_i32_457 : BitVec 32 := 0#32
  let c1_i32_456 : BitVec 32 := 1#32
  let v484 : BitVec 32 := Scalar.muli v54 c1_i32_456
  let v485 : BitVec 32 := Scalar.addi c0_i32_457 v484
  v485.toNat
def k0_dev14 (v35 : BitVec 32) : Nat :=
  let c0_i32_546 : BitVec 32 := 0#32
  let c1_i32_545 : BitVec 32 := 1#32
  let v543 : BitVec 32 := Scalar.muli v35 c1_i32_545
  let v544 : BitVec 32 := Scalar.addi c0_i32_546 v543
  v544.toNat
def k0_dev15 (v35 : BitVec 32) : Nat :=
  let c0_i32_596 : BitVec 32 := 0#32
  let c1_i32_595 : BitVec 32 := 1#32
  let v573 : BitVec 32 := Scalar.muli v35 c1_i32_595
  let v574 : BitVec 32 := Scalar.addi c0_i32_596 v573
  v574.toNat

def k0_chk2 (v35 : BitVec 32) : Prop :=
  ((k0_dev2 v35) < nD) ∧
  ((k0_dev4 v35) < nD) ∧
  ((k0_dev5 v35) < nD) ∧
  ((k0_dev10 v35) < nD) ∧
  ((k0_dev11 v35) < nD) ∧
  ((k0_dev14 v35) < nD) ∧
  ((k0_dev15 v35) < nD)
theorem k0_dev2_lt : ∀ (v35 : BitVec 32) (k0_hw2 : k0_chk2 v35), (k0_dev2 v35) < nD := fun v35 k0_hw2 => k0_hw2.1
theorem k0_dev4_lt : ∀ (v35 : BitVec 32) (k0_hw2 : k0_chk2 v35), (k0_dev4 v35) < nD := fun v35 k0_hw2 => k0_hw2.2.1
theorem k0_dev5_lt : ∀ (v35 : BitVec 32) (k0_hw2 : k0_chk2 v35), (k0_dev5 v35) < nD := fun v35 k0_hw2 => k0_hw2.2.2.1
theorem k0_dev10_lt : ∀ (v35 : BitVec 32) (k0_hw2 : k0_chk2 v35), (k0_dev10 v35) < nD := fun v35 k0_hw2 => k0_hw2.2.2.2.1
theorem k0_dev11_lt : ∀ (v35 : BitVec 32) (k0_hw2 : k0_chk2 v35), (k0_dev11 v35) < nD := fun v35 k0_hw2 => k0_hw2.2.2.2.2.1
theorem k0_dev14_lt : ∀ (v35 : BitVec 32) (k0_hw2 : k0_chk2 v35), (k0_dev14 v35) < nD := fun v35 k0_hw2 => k0_hw2.2.2.2.2.2.1
theorem k0_dev15_lt : ∀ (v35 : BitVec 32) (k0_hw2 : k0_chk2 v35), (k0_dev15 v35) < nD := fun v35 k0_hw2 => k0_hw2.2.2.2.2.2.2

def k0_dev16 (v54 : BitVec 32) : Nat :=
  let c0_i32_646 : BitVec 32 := 0#32
  let c1_i32_645 : BitVec 32 := 1#32
  let v603 : BitVec 32 := Scalar.muli v54 c1_i32_645
  let v604 : BitVec 32 := Scalar.addi c0_i32_646 v603
  v604.toNat
def k0_dev17 (v54 : BitVec 32) : Nat :=
  let c0_i32_696 : BitVec 32 := 0#32
  let c1_i32_695 : BitVec 32 := 1#32
  let v633 : BitVec 32 := Scalar.muli v54 c1_i32_695
  let v634 : BitVec 32 := Scalar.addi c0_i32_696 v633
  v634.toNat

def k0_chk1 (v54 : BitVec 32) : Prop :=
  ((k0_dev1 v54) < nD) ∧
  ((k0_dev6 v54) < nD) ∧
  ((k0_dev7 v54) < nD) ∧
  ((k0_dev12 v54) < nD) ∧
  ((k0_dev13 v54) < nD) ∧
  ((k0_dev16 v54) < nD) ∧
  ((k0_dev17 v54) < nD)
theorem k0_dev1_lt : ∀ (v54 : BitVec 32) (k0_hw1 : k0_chk1 v54), (k0_dev1 v54) < nD := fun v54 k0_hw1 => k0_hw1.1
theorem k0_dev6_lt : ∀ (v54 : BitVec 32) (k0_hw1 : k0_chk1 v54), (k0_dev6 v54) < nD := fun v54 k0_hw1 => k0_hw1.2.1
theorem k0_dev7_lt : ∀ (v54 : BitVec 32) (k0_hw1 : k0_chk1 v54), (k0_dev7 v54) < nD := fun v54 k0_hw1 => k0_hw1.2.2.1
theorem k0_dev12_lt : ∀ (v54 : BitVec 32) (k0_hw1 : k0_chk1 v54), (k0_dev12 v54) < nD := fun v54 k0_hw1 => k0_hw1.2.2.2.1
theorem k0_dev13_lt : ∀ (v54 : BitVec 32) (k0_hw1 : k0_chk1 v54), (k0_dev13 v54) < nD := fun v54 k0_hw1 => k0_hw1.2.2.2.2.1
theorem k0_dev16_lt : ∀ (v54 : BitVec 32) (k0_hw1 : k0_chk1 v54), (k0_dev16 v54) < nD := fun v54 k0_hw1 => k0_hw1.2.2.2.2.2.1
theorem k0_dev17_lt : ∀ (v54 : BitVec 32) (k0_hw1 : k0_chk1 v54), (k0_dev17 v54) < nD := fun v54 k0_hw1 => k0_hw1.2.2.2.2.2.2

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1024x8192, .f32⟩
  | .hbm, ⟨3, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Words.lean ====
/- The mesh of eight devices as a ring, and what the kernel's word arithmetic computes on it: each neighbour word
   and each block word a device computes from its own number, decided over the eight devices. -/
module

public import proofs.«01_k».proof.Proof.Gen.KernelIdeal.Skeleton

@[expose] public section

namespace Cert.KernelIdeal.RS

open Idealize.ShloMosaic Idealize.SL.Sem
open Cert.KernelIdeal Cert.KernelIdeal.Gen

/-- The ring's order: position `k` is held by device `ringOf k`. The table is its own inverse, so `ringOf c` is also
    the position of device `c`. -/
def ringOf : Fin 8 → Fin 8 := ![0, 1, 2, 3, 7, 6, 5, 4]

/-- The device `k` positions after device `c` on the ring. -/
def tgt (c : Dev nD) (k : Fin 8) : Dev nD := ringOf (ringOf c + k)

/-- The next device on the ring, the previous one, and the one a device's chord joins it to. -/
def right (c : Dev nD) : Dev nD := tgt c 1
def left (c : Dev nD) : Dev nD := tgt c 7
/-- Whether the device's ring position is even. -/
def even (c : Dev nD) : Bool := (ringOf c).val % 2 == 0
def partner (c : Dev nD) : Dev nD := bif even c then tgt c 3 else tgt c 5

theorem right_left (c : Dev nD) : right (left c) = c := by revert c; decide
theorem left_right (c : Dev nD) : left (right c) = c := by revert c; decide
theorem partner_partner (c : Dev nD) : partner (partner c) = c := by revert c; decide

/-- The column numbers every device compares with, and the ring's table of devices by position. -/
abbrev cols : IVec S1x8 32 := iota .tc S1x8 32 [1] iota_S1x8_d1_w32

/-- The word a device number or ring position is. -/
abbrev wd (d : Fin 8) : BitVec 32 := BitVec.ofNat 32 d.val

/-- The bit the kernel computes for an even position. -/
abbrev evenBit (c : Dev nD) : BitVec 1 := bif even c then 1#1 else 0#1

theorem pos_word (c : Dev nD) : extractAt ![0, 0, 0] (k0_pay3 c) inpos_S1x1x1_p0_0_0 = wd (ringOf c) := by
  revert c; decide +kernel

theorem right_word (c : Dev nD) : extractAt ![0, 0, 0] (k0_pay4 c) inpos_S1x1x1_p0_0_0 = wd (right c) := by
  revert c; decide +kernel

theorem left_word (c : Dev nD) :
    extractAt ![0, 0, 0] (k0_pay5 cols k0_pay2 (Scalar.subi (wd (ringOf c)) 1#32) (Scalar.select (Scalar.cmpi .eq 8#32 0#32) 1#32 8#32)) inpos_S1x1x1_p0_0_0
      = wd (left c) := by
  revert c; decide +kernel

/-- The parity bit, as the kernel takes it from the position's remainder by two. -/
theorem even_word (c : Dev nD) :
    (let v56 := Scalar.select (Scalar.cmpi .eq 2#32 0#32) 1#32 2#32
     let v57 := Scalar.remsi (wd (ringOf c)) v56
     Scalar.cmpi .eq (Scalar.select (Scalar.andi (Scalar.xori (Scalar.cmpi .slt v57 0#32) (Scalar.cmpi .slt v56 0#32)) (Scalar.cmpi .ne v57 0#32))
       (Scalar.addi v57 v56) v57) 0#32) = evenBit c := by
  revert c; decide +kernel

theorem three_word (c : Dev nD) :
    extractAt ![0, 0, 0] (k0_pay7 k0_pay2 (k0_pay6 cols (wd (ringOf c)))) inpos_S1x1x1_p0_0_0 = wd (tgt c 3) := by
  revert c; decide +kernel

theorem five_word (c : Dev nD) :
    extractAt ![0, 0, 0] (k0_pay8 cols k0_pay2 (wd (ringOf c))) inpos_S1x1x1_p0_0_0 = wd (tgt c 5) := by
  revert c; decide +kernel

/-- The block words: the block a device adds for each distance on the ring. -/
theorem block3_word (c : Dev nD) :
    extractAt ![0, 0, 0] (k0_pay9 cols k0_pay2 (Scalar.addi (wd (ringOf c)) 3#32) 8#32) inpos_S1x1x1_p0_0_0 = wd (tgt c 3) := by
  revert c; decide +kernel

theorem block5_word (c : Dev nD) :
    (let v163 := Scalar.select (Scalar.cmpi .eq 8#32 0#32) 1#32 8#32
     let v164 := Scalar.remsi (Scalar.subi (wd (ringOf c)) 3#32) v163
     extractAt ![0, 0, 0] (k0_pay11 cols k0_pay2 v164
       (Scalar.andi (Scalar.xori (Scalar.cmpi .slt v164 0#32) (Scalar.cmpi .slt v163 0#32)) (Scalar.cmpi .ne v164 0#32)) (Scalar.addi v164 v163)) inpos_S1x1x1_p0_0_0)
      = wd (tgt c 5) := by
  revert c; decide +kernel

theorem block4_word (c : Dev nD) :
    extractAt ![0, 0, 0] (k0_pay13 cols k0_pay2 (wd (ringOf c))) inpos_S1x1x1_p0_0_0 = wd (tgt c 4) := by
  revert c; decide +kernel

theorem block2_word (c : Dev nD) :
    extractAt ![0, 0, 0] (k0_pay15 cols k0_pay2 (Scalar.addi (wd (ringOf c)) 2#32) 8#32 0#32) inpos_S1x1x1_p0_0_0 = wd (tgt c 2) := by
  revert c; decide +kernel

theorem block6_word (c : Dev nD) :
    extractAt ![0, 0, 0] (k0_pay18 (k0_pay17 cols k0_pay2 (wd (ringOf c)))) inpos_S1x1x1_p0_0_0 = wd (tgt c 6) := by
  revert c; decide +kernel

theorem block1_word (c : Dev nD) :
    extractAt ![0, 0, 0] (k0_pay20 cols k0_pay2 (wd (ringOf c))) inpos_S1x1x1_p0_0_0 = wd (tgt c 1) := by
  revert c; decide +kernel

theorem block7_word (c : Dev nD) :
    extractAt ![0, 0, 0] (k0_pay22 cols k0_pay2 (wd (ringOf c)) 4294967295#32) inpos_S1x1x1_p0_0_0 = wd (tgt c 7) := by
  revert c; decide +kernel

/-- The in-range checks hold of every device's word. -/
theorem chk_right (d : Dev nD) : k0_chk2 (wd d) := by revert d; decide +kernel
theorem chk_left (d : Dev nD) : k0_chk1 (wd d) := by revert d; decide +kernel
theorem chk_partner (c : Dev nD) : k0_chk3 (wd (ringOf c)) (wd (tgt c 3)) (wd (tgt c 5)) := by revert c; decide +kernel
theorem chk4 (d : Dev nD) : k0_chk4 (wd d) := by revert d; decide +kernel
theorem chk5 (d : Dev nD) : k0_chk5 (wd d) := by revert d; decide +kernel
theorem chk6 (d : Dev nD) : k0_chk6 (wd d) := by revert d; decide +kernel
theorem chk7 (d : Dev nD) : k0_chk7 (wd d) := by revert d; decide +kernel
theorem chk8 (d : Dev nD) : k0_chk8 (wd d) := by revert d; decide +kernel
theorem chk9 (d : Dev nD) : k0_chk9 (wd d) := by revert d; decide +kernel
theorem chk10 (d : Dev nD) : k0_chk10 (wd d) := by revert d; decide +kernel

/-- The device a word of a device names, as each signal and each transfer computes it. -/
theorem devs_right (d : Dev nD) :
    k0_dev2 (wd d) = d.val ∧ k0_dev4 (wd d) = d.val ∧ k0_dev5 (wd d) = d.val ∧ k0_dev10 (wd d) = d.val ∧ k0_dev11 (wd d) = d.val
      ∧ k0_dev14 (wd d) = d.val ∧ k0_dev15 (wd d) = d.val := by
  revert d; decide +kernel
theorem devs_left (d : Dev nD) :
    k0_dev1 (wd d) = d.val ∧ k0_dev6 (wd d) = d.val ∧ k0_dev7 (wd d) = d.val ∧ k0_dev12 (wd d) = d.val ∧ k0_dev13 (wd d) = d.val
      ∧ k0_dev16 (wd d) = d.val ∧ k0_dev17 (wd d) = d.val := by
  revert d; decide +kernel
theorem devs_partner (c : Dev nD) :
    k0_dev3 (wd (ringOf c)) (wd (tgt c 3)) (wd (tgt c 5)) = (partner c).val ∧ k0_dev8 (wd (ringOf c)) (wd (tgt c 3)) (wd (tgt c 5)) = (partner c).val
      ∧ k0_dev9 (wd (ringOf c)) (wd (tgt c 3)) (wd (tgt c 5)) = (partner c).val := by
  revert c; decide +kernel

/-- The columns of the left operand a device's block product reads: block `d`'s 128 columns. -/
abbrev colOff (d : Dev nD) : Fin 2 → Nat := ![0, 128 * d.val]

theorem offs (d : Dev nD) :
    k0_off1 (wd d) = colOff d ∧ k0_off2 (wd d) = colOff d ∧ k0_off3 (wd d) = colOff d ∧ k0_off4 (wd d) = colOff d
      ∧ k0_off5 (wd d) = colOff d ∧ k0_off6 (wd d) = colOff d ∧ k0_off7 (wd d) = colOff d ∧ k0_off8 d = colOff d := by
  revert d; decide +kernel

theorem colOff_inb (d : Dev nD) (a : Fin 2) : colOff d a + S1024x128.size a ≤ S1024x1024.size a := by
  revert d a; decide +kernel

end Cert.KernelIdeal.RS
-- ==== Proof.Cells.lean ====
/- The pieces of the two communication buffers, the transfers between them, the semaphores they complete on, what each
   transfer carries, and the protocol's schedule: who pays which cell, and what comes with each payment. -/
module

public import proofs.«01_k».proof.Proof.Words
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Mathlib.Data.Fintype.Option
public import Mathlib.Data.Fintype.Sum
public import Mathlib.Data.Fintype.Prod

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging transfers' and the protocol's, its duties named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The buffers and their pieces -/

abbrev xM : Memref sig .tc .vmem S1024x1024 .f32 := Memref.whole cc0_stg0_0
abbrev yM : Memref sig .tc .vmem S1024x4096 .f32 := Memref.whole cc0_stg1_0
abbrev oM : Memref sig .tc .vmem S128x4096 .f32 := Memref.whole cc0_stg2_0
abbrev commM : Memref sig .tc .vmem S2x4x128x4096 .f32 := Memref.whole cc0_scratch0
abbrev cutM : Memref sig .tc .vmem S2x128x4096 .f32 := Memref.whole cc0_scratch1

theorem cm_inb (l : Fin 2) (s : Fin 4) (j : Fin 2) :
    ∀ a, (![l.val, s.val, 64 * j.val, 0] : Fin 4 → ℕ) a + S1x1x64x4096.size a ≤ S2x4x128x4096.size a := by
  revert l s j; decide
theorem sc_inb (o j : Fin 2) : ∀ a, (![o.val, 64 * j.val, 0] : Fin 3 → ℕ) a + S1x64x4096.size a ≤ S2x128x4096.size a := by
  revert o j; decide
theorem slot_inb (l : Fin 2) : ∀ a, (![l.val, 0, 0, 0] : Fin 4 → ℕ) a + S1x1x128x4096.size a ≤ S2x4x128x4096.size a := by
  revert l; decide

/-- The rectangles: half `j` of slot `s` of link `l`; half `j` of the chord's slot `o`; the whole first slot of link `l`
    and of the chord. -/
abbrev cmR (l : Fin 2) (s : Fin 4) (j : Fin 2) : Rect S2x4x128x4096 :=
  Rect.unit (s := S2x4x128x4096) ![l.val, s.val, 64 * j.val, 0] S1x1x64x4096.size (cm_inb l s j)
abbrev scR (o j : Fin 2) : Rect S2x128x4096 := Rect.unit (s := S2x128x4096) ![o.val, 64 * j.val, 0] S1x64x4096.size (sc_inb o j)
abbrev slotR (l : Fin 2) : Rect S2x4x128x4096 := Rect.unit (s := S2x4x128x4096) ![l.val, 0, 0, 0] S1x1x128x4096.size (slot_inb l)
abbrev cutR : Rect S2x128x4096 := Rect.unit (s := S2x128x4096) ![0, 0, 0] S1x128x4096.size inb_S2x128x4096_S1x128x4096_0_0_0

/-- A piece of the links' buffer, and of the chord's, as 64 rows of 4096. -/
abbrev cm (l : Fin 2) (s : Fin 4) (j : Fin 2) : Memref sig .tc .vmem S64x4096 .f32 :=
  (commM.slice (cmR l s j) (fun _ => rfl)).squeeze S64x4096 squeezes_S1x1x64x4096_S64x4096
abbrev sc (o j : Fin 2) : Memref sig .tc .vmem S64x4096 .f32 :=
  (cutM.slice (scR o j) (fun _ => rfl)).squeeze S64x4096 squeezes_S1x64x4096_S64x4096

/-! ## The transfers -/

/-- A transfer: step `s` of link `l`, half `j`; or half `j` across the chord. -/
abbrev Xf : Type := (Fin 2 × Fin 3 × Fin 2) ⊕ Fin 2

instance Xf_decEq : DecidableEq Xf := inferInstance
instance Xf_fintype : Fintype Xf := inferInstance

/-- The kind of link a transfer takes, the device at its far end, and the device it comes from. -/
def lk : Xf → Fin 3
  | .inl (l, _, _) => l.castSucc
  | .inr _ => 2
def nb : Fin 3 → Dev nD → Dev nD
  | 0 => right
  | 1 => left
  | 2 => partner
def bn : Fin 3 → Dev nD → Dev nD
  | 0 => left
  | 1 => right
  | 2 => partner

theorem nb_bn (k : Fin 3) (c : Dev nD) : nb k (bn k c) = c := by revert k c; decide
theorem bn_nb (k : Fin 3) (c : Dev nD) : bn k (nb k c) = c := by revert k c; decide

def link (k : Fin 3) : Dev nD ≃ Dev nD := ⟨nb k, bn k, bn_nb k, nb_bn k⟩

def srcM : Xf → Memref sig .tc .vmem S64x4096 .f32
  | .inl (l, s, j) => cm l s.castSucc j
  | .inr j => sc 0 j
def dstM : Xf → Memref sig .tc .vmem S64x4096 .f32
  | .inl (l, s, j) => cm l s.succ j
  | .inr j => sc 1 j

/-! ## The semaphores -/

/-- The barrier semaphore, and the send and receive semaphore of each transfer. -/
abbrev barS : Sem sig := (SemArray.scalar (sig.barrier 0 rfl) : Sems sig S_).sem

def sendQ : Xf → Fin 31
  | .inl (l, s, j) => ⟨3 + (l.val * 6 + s.val * 2 + j.val), by omega⟩
  | .inr j => ⟨27 + j.val, by omega⟩
def recvQ : Xf → Fin 31
  | .inl (l, s, j) => ⟨15 + (l.val * 6 + s.val * 2 + j.val), by omega⟩
  | .inr j => ⟨29 + j.val, by omega⟩

/-- A cell's code: the barrier, or a transfer's send side (`false`) or receive side (`true`). -/
abbrev Ck : Type := Option (Bool × Xf)

instance Ck_decEq : DecidableEq Ck := inferInstance
instance Ck_fintype : Fintype Ck := inferInstance

def csem : Ck → SemLoc sig
  | none => .reg barS
  | some (false, t) => .dma (sendQ t)
  | some (true, t) => .dma (recvQ t)

theorem sendQ_inj : ∀ t t' : Xf, sendQ t = sendQ t' → t = t' := by decide +kernel
theorem recvQ_inj : ∀ t t' : Xf, recvQ t = recvQ t' → t = t' := by decide +kernel
theorem sendQ_ne_recvQ : ∀ t t' : Xf, sendQ t ≠ recvQ t' := by decide +kernel

theorem csem_injective : Function.Injective csem := by
  rintro (_ | ⟨_ | _, t⟩) (_ | ⟨_ | _, t'⟩) h
  · rfl
  · cases h
  · cases h
  · cases h
  · rw [sendQ_inj t t' (SemLoc.dma.inj h)]
  · exact absurd (SemLoc.dma.inj h) (sendQ_ne_recvQ t t')
  · cases h
  · exact absurd (SemLoc.dma.inj h).symm (sendQ_ne_recvQ t' t)
  · rw [recvQ_inj t t' (SemLoc.dma.inj h)]

open Classical in
/-- The code of a semaphore of the protocol. -/
def codeOf (sm : SemLoc sig) : Ck := if h : ∃ k, csem k = sm then h.choose else none

theorem codeOf_csem (k : Ck) : codeOf (csem k) = k := by
  unfold codeOf
  rw [dif_pos ⟨k, rfl⟩]
  exact csem_injective (Exists.choose_spec (⟨k, rfl⟩ : ∃ k', csem k' = csem k))

abbrev kcell (ck : Dev nD × Ck) : GSem nD τ sig := ((ck.1 : Thread nD τ), csem ck.2)
abbrev barCell (c : Dev nD) : GSem nD τ sig := kcell (c, none)
abbrev sendCell (c : Dev nD) (t : Xf) : GSem nD τ sig := kcell (c, some (false, t))
abbrev recvCell (c : Dev nD) (t : Xf) : GSem nD τ sig := kcell (c, some (true, t))

/-- What one transfer adds to each of its two semaphores. -/
def N : ℕ := (cm 0 0 0).view.dmaCredit
theorem N_pos : 0 < N := View.dmaCredit_pos _ (by decide)

theorem credit_src (t : Xf) : (srcM t).view.dmaCredit = N := by
  rcases t with ⟨l, s, j⟩ | j <;> rfl
theorem credit_dst (t : Xf) : (dstM t).view.dmaCredit = N := by
  rcases t with ⟨l, s, j⟩ | j <;> rfl

attribute [irreducible] N

/-! ## Contents -/

/-- The staged operands of device `c`. -/
def xstg (c : Dev nD) : (cc0_stg0_0 : Ref sig .tc).ty.Contents (Elt F) :=
  (win0_0.blk (0 : Fin 1)).view.read (Elt F) ((s₀ m ρ).mem ((c : Thread nD τ).loc main_arg0))
def ystg (c : Dev nD) : (cc0_stg1_0 : Ref sig .tc).ty.Contents (Elt F) :=
  (win0_1.blk (0 : Fin 1)).view.read (Elt F) ((s₀ m ρ).mem ((c : Thread nD τ).loc main_arg1))

/-- The columns of `x` that belong to device `e`'s result. -/
def xcols (c e : Dev nD) : Vec F S1024x128 .f32 :=
  xM.view.readAt (Elt F) (Rect.unit (s := S1024x1024) (colOff e) S1024x128.size (colOff_inb e)).toLoadRect (xstg m ρ c)

/-- Device `c`'s part of device `e`'s result. -/
def part (c e : Dev nD) : FVec F S128x4096 .f32 := k0_pay24 (xcols m ρ c e) (ystg m ρ c)

/-- The upper and the lower half of a block of 128 rows. -/
def half (j : Fin 2) (v : FVec F S128x4096 .f32) : FVec F S64x4096 .f32 :=
  match j with
  | 0 => extractStridedSlice S64x4096 ![0, 0] v slices_S128x4096_o0_0_S64x4096
  | 1 => extractStridedSlice S64x4096 ![64, 0] v slices_S128x4096_o64_0_S64x4096

/-- What crosses the chord from device `c`; -/
def vC (c : Dev nD) (j : Fin 2) : FVec F S64x4096 .f32 := half j (part m ρ c (tgt c 4))
/-- what the first link carries from device `c` at each of its three steps, the chord's part joining at the last step
    on odd devices; -/
def vR0 (c : Dev nD) (j : Fin 2) : FVec F S64x4096 .f32 := half j (part m ρ c (tgt c 3))
def vR1 (c : Dev nD) (j : Fin 2) : FVec F S64x4096 .f32 := addf (vR0 m ρ (left c) j) (half j (part m ρ c (tgt c 2)))
def vR2 (c : Dev nD) (j : Fin 2) : FVec F S64x4096 .f32 :=
  bif even c then addf (vR1 m ρ (left c) j) (half j (part m ρ c (tgt c 1)))
  else addf (addf (vR1 m ρ (left c) j) (half j (part m ρ c (tgt c 1)))) (vC m ρ (partner c) j)
/-- and the second link, the chord's part joining on even devices. -/
def vL0 (c : Dev nD) (j : Fin 2) : FVec F S64x4096 .f32 := half j (part m ρ c (tgt c 5))
def vL1 (c : Dev nD) (j : Fin 2) : FVec F S64x4096 .f32 := addf (vL0 m ρ (right c) j) (half j (part m ρ c (tgt c 6)))
def vL2 (c : Dev nD) (j : Fin 2) : FVec F S64x4096 .f32 :=
  bif even c then addf (addf (vL1 m ρ (right c) j) (half j (part m ρ c (tgt c 7)))) (vC m ρ (partner c) j)
  else addf (vL1 m ρ (right c) j) (half j (part m ρ c (tgt c 7)))

/-- What a transfer carries from device `c`. -/
def val : Xf → Dev nD → FVec F S64x4096 .f32
  | .inl (0, 0, j), c => vR0 m ρ c j
  | .inl (0, 1, j), c => vR1 m ρ c j
  | .inl (0, 2, j), c => vR2 m ρ c j
  | .inl (1, 0, j), c => vL0 m ρ c j
  | .inl (1, 1, j), c => vL1 m ρ c j
  | .inl (1, 2, j), c => vL2 m ρ c j
  | .inr j, c => vC m ρ c j

/-- Half `j` of device `c`'s result: what the two links brought, and its own part. -/
def outH (c : Dev nD) (j : Fin 2) : FVec F S64x4096 .f32 :=
  addf (addf (vR2 m ρ (left c) j) (vL2 m ρ (right c) j)) (half j (part m ρ c c))

/-! ## The schedule -/

/-- A memref's elements on device `n`, at any contents. -/
def anyAt (n : Dev nD) (M : Memref sig .tc .vmem S64x4096 .f32) : sProp 𝕄 :=
  iprop(∃ f, M.view.loc (n : Thread nD τ) ↦[M.view.set]{fullShare} f)

/-- A piece on device `c` at given contents. -/
def at' (c : Dev nD) (M : Memref sig .tc .vmem S64x4096 .f32) (X : FVec F S64x4096 .f32) : sProp 𝕄 :=
  owns (c : Thread nD τ) M fullShare X

omit [FloatOps F] in
instance anyAt_storable (n : Dev nD) (M) : BI.Storable (upEmb : UEmb _ 𝕄) (anyAt (F := F) n M) := by unfold anyAt; infer_instance
omit [FloatOps F] in
instance at_storable (n : Dev nD) (M) (X) : BI.Storable (upEmb : UEmb _ 𝕄) (at' (F := F) n M X) := by unfold at'; infer_instance

/-- The pieces of device `n` that the far end of link `l` writes into. -/
def land (n : Dev nD) (l : Fin 2) : sProp 𝕄 :=
  iprop(anyAt n (cm l 1 0) ∗ anyAt n (cm l 1 1) ∗ anyAt n (cm l 2 0) ∗ anyAt n (cm l 2 1) ∗ anyAt n (cm l 3 0) ∗ anyAt n (cm l 3 1))
def landC (n : Dev nD) : sProp 𝕄 := iprop(anyAt n (sc 1 0) ∗ anyAt n (sc 1 1))

/-- What the barrier signal of duty `d` brings device `c`: the pieces it will write at that neighbour. -/
def barPay (c : Dev nD) : Fin 3 → sProp 𝕄
  | 0 => land (nb 0 c) 0
  | 1 => land (nb 1 c) 1
  | 2 => landC (nb 2 c)

omit [FloatOps F] in
instance barPay_storable (c : Dev nD) (d) : BI.Storable (upEmb : UEmb _ 𝕄) (barPay (F := F) c d) := by
  match d with
  | 0 => unfold barPay land; infer_instance
  | 1 => unfold barPay land; infer_instance
  | 2 => unfold barPay landC; infer_instance

/-- What a payment to the cell of a code brings its owner: the landing pieces, the source piece back, or the landed
    piece at what was sent. -/
def pay (c : Dev nD) : Ck → Fin 3 → sProp 𝕄
  | none, d => barPay c d
  | some (false, t), _ => at' c (srcM t) (val m ρ t c)
  | some (true, t), _ => at' c (dstM t) (val m ρ t (bn (lk t) c))

instance pay_storable (c : Dev nD) (k) (d) : BI.Storable (upEmb : UEmb _ 𝕄) (pay (F := F) m ρ c k d) := by
  match k with
  | none => unfold pay; infer_instance
  | some (false, t) => unfold pay; infer_instance
  | some (true, t) => unfold pay; infer_instance

def duts : Ck → Finset (Fin 3)
  | none => Finset.univ
  | some _ => {0}
def amt : Ck → ℕ
  | none => 1
  | some _ => N

/-- One round: a barrier cell has three duties of one unit, every other cell the one of a transfer's credit. -/
def Rd : Rounds.Schedule (GSem nD τ sig) (Fin 3) 𝕄 where
  duties g r := if r = 0 then duts (codeOf g.2) else ∅
  unitless _ := False
  amount g _ _ := amt (codeOf g.2)
  payload g _ d := pay m ρ g.1.1 (codeOf g.2) d
  amount_pos g _ _ _ := by
    cases codeOf g.2 with
    | none => exact Nat.one_pos
    | some _ => exact N_pos

instance Rd_payload_storable (g : GSem nD τ sig) (r : ℕ) (d : Fin 3) :
    BI.Storable (upEmb : UEmb _ 𝕄) ((Rd (F := F) m ρ).payload g r d) := pay_storable m ρ _ _ _

theorem duties_at (c : Dev nD) (k : Ck) : (Rd (F := F) m ρ).duties (kcell (c, k)) 0 = duts k := by
  dsimp only [Rd]; rw [if_pos rfl, codeOf_csem]
theorem duties_later (g : GSem nD τ sig) : ∀ r, 1 ≤ r → (Rd (F := F) m ρ).duties g r = ∅ :=
  fun r hr => by dsimp only [Rd]; rw [if_neg (by omega)]
theorem amount_at (c : Dev nD) (k : Ck) (d : Fin 3) : (Rd (F := F) m ρ).amount (kcell (c, k)) 0 d = amt k := by
  dsimp only [Rd]; rw [codeOf_csem]
theorem payload_at (c : Dev nD) (k : Ck) (d : Fin 3) : (Rd (F := F) m ρ).payload (kcell (c, k)) 0 d = pay m ρ c k d := by
  dsimp only [Rd]; rw [codeOf_csem]

theorem expect_bar (c : Dev nD) : (Rd (F := F) m ρ).expect (barCell c) 0 = 3 := by
  unfold Schedule.expect Schedule.amountOf
  rw [duties_at, Finset.sum_congr rfl fun d _ => amount_at m ρ c none d]; rfl
theorem expect_xfer (c : Dev nD) (b : Bool) (t : Xf) : (Rd (F := F) m ρ).expect (kcell (c, some (b, t))) 0 = N := by
  unfold Schedule.expect Schedule.amountOf
  rw [duties_at]; unfold duts; rw [Finset.sum_singleton, amount_at]; rfl

/-- The whole of a barrier cell's round, and of a transfer's cell's. -/
theorem rest_bar (c : Dev nD) :
    bigSep ((Rd (F := F) m ρ).duties (barCell c) 0 \ ∅) (fun d => (Rd (F := F) m ρ).payload (barCell c) 0 d)
      = iprop(land (nb 0 c) 0 ∗ land (nb 1 c) 1 ∗ landC (nb 2 c)) := by
  rw [Finset.sdiff_empty, duties_at]; unfold duts
  rw [bigSep_univ_eq_bigSepL [0, 1, 2] (by decide) (by decide), bigSepL_cons_cons, bigSepL_cons_cons, bigSepL_singleton,
    payload_at, payload_at, payload_at]
  rfl
theorem rest_xfer (c : Dev nD) (b : Bool) (t : Xf) :
    bigSep ((Rd (F := F) m ρ).duties (kcell (c, some (b, t))) 0 \ ∅) (fun d => (Rd (F := F) m ρ).payload (kcell (c, some (b, t))) 0 d)
      = pay m ρ c (some (b, t)) 0 := by
  rw [Finset.sdiff_empty, duties_at]; unfold duts; rw [bigSep_singleton, payload_at]

/-! ## What each device owes, and the levels -/

/-- A payment a device owes: a barrier signal, or a landing. -/
abbrev Due : Type := Fin 3 ⊕ Xf
def dueTo (c : Dev nD) : Due → Dev nD
  | .inl d => bn d c
  | .inr t => nb (lk t) c
def dueCk : Due → Ck
  | .inl _ => none
  | .inr t => some (true, t)

/-- What device `c` owes while the payments `ks` remain, the first of them last in the sum. -/
def Ow (c : Dev nD) : List Due → CellTallies nD τ sig Unit
  | [] => 0
  | k :: ks => Ow c ks + tallyAt (kcell (dueTo c k, dueCk k)) () (amt (dueCk k))

theorem Ow_xfer (c : Dev nD) (t : Xf) (ks : List Due) :
    Ow c (.inr t :: ks) = Ow c ks + tallyAt (recvCell (nb (lk t) c) t) () N := rfl

/-- The payments in program order. -/
def dues : List Due :=
  [.inl 0, .inl 1, .inl 2,
   .inr (.inl (0, 0, 0)), .inr (.inl (0, 0, 1)), .inr (.inl (1, 0, 0)), .inr (.inl (1, 0, 1)), .inr (.inr 0), .inr (.inr 1),
   .inr (.inl (0, 1, 0)), .inr (.inl (0, 1, 1)), .inr (.inl (1, 1, 0)), .inr (.inl (1, 1, 1)),
   .inr (.inl (0, 2, 0)), .inr (.inl (0, 2, 1)), .inr (.inl (1, 2, 0)), .inr (.inl (1, 2, 1))]

/-- The level of a cell: send cells lowest, then barriers, then receive cells by step. -/
def level : Ck → ℕ
  | none => 1
  | some (false, _) => 0
  | some (true, .inl (_, s, _)) => 2 + s.val
  | some (true, .inr _) => 2

open Classical in
def lv (g : GSem nD τ sig) (_ : Unit) : ℕ := if ∃ k, csem k = g.2 then level (codeOf g.2) else 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Ck) (u : Unit) : lv (kcell (c, k)) u = level k := by
  unfold lv; rw [if_pos ⟨k, rfl⟩, codeOf_csem]
theorem lv_other (g : GSem nD τ sig) (h : ∀ k, csem k ≠ g.2) (u : Unit) : lv g u = 0 := by
  unfold lv; exact if_neg fun ⟨k, hk⟩ => h k hk

theorem Ow_pos {c : Dev nD} {ks : List Due} {g : GSem nD τ sig} {u : Unit} (h : 0 < Ow c ks g u) :
    ∃ k ∈ ks, g = kcell (dueTo c k, dueCk k) := by
  induction ks with
  | nil => exact absurd h (Nat.lt_irrefl 0)
  | cons k ks ih =>
    unfold Ow at h
    rw [Pi.add_apply, Finsupp.add_apply, tallyAt_apply] at h
    by_cases hg : g = kcell (dueTo c k, dueCk k)
    · exact ⟨k, List.mem_cons_self .., hg⟩
    · rw [if_neg (fun h' => hg h'.1), Nat.add_zero] at h
      obtain ⟨k', hk', e⟩ := ih h
      exact ⟨k', List.mem_cons_of_mem _ hk', e⟩

omit [FloatOps F] in
/-- A device may wait on a semaphore below everything it still owes. -/
theorem mayWait_of (c : Dev nD) (sm : SemLoc sig) (b : ℕ) (ks : List Due) (hb : lv ((c : Thread nD τ), sm) () ≤ b)
    (h : ∀ k ∈ ks, b < level (dueCk k)) : (levAts L lv : sProp 𝕄) ⊢ MayWait (c : Thread nD τ) sm () (Ow c ks) :=
  MayOwe.of_cut (L := L) (lev := lv) b (fun p hp => by rw [Finset.mem_singleton.mp hp, L_tc]; exact Finset.mem_singleton_self _)
    (fun g u hg => by obtain ⟨k, -, rfl⟩ := Ow_pos hg; rw [L_tc]; exact Finset.mem_singleton_self _)
    (fun p hp => by rw [Finset.mem_singleton.mp hp]; exact hb)
    (fun g u hg => by obtain ⟨k, hk, rfl⟩ := Ow_pos hg; rw [lv_at]; exact h k hk)

end Cert.KernelIdeal.RS

end
-- ==== Proof.Rules.lean ====
/- One rule for each kind of step the kernel takes: a transfer issued, a wait for a transfer's send side or its landing,
   a block of columns read, and a piece of a communication buffer read or rewritten. -/
module

public import proofs.«01_k».proof.Proof.Cells

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A run of a program on device `c` to a postcondition. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The protocol's ghost state on a device -/

/-- Every cell's invariant, and that every cell has reached its round. -/
def records (K : Dev nD × Ck → ℕ) : sProp 𝕄 :=
  iprop((bigSep Finset.univ fun ck : Dev nD × Ck => cellInv ER (Rd m ρ) (K ck) (kcell ck))
    ∗ bigSep Finset.univ fun ck : Dev nD × Ck => reached ER (kcell ck) 0)
instance records_persistent (K : Dev nD × Ck → ℕ) : BI.Persistent (records m ρ K) := by unfold records; infer_instance

/-- The records and the levels. -/
def Env (K : Dev nD × Ck → ℕ) : sProp 𝕄 := iprop(records m ρ K ∗ levAts L lv)
instance Env_persistent (K : Dev nD × Ck → ℕ) : BI.Persistent (Env m ρ K) := by unfold Env; infer_instance

theorem inv_at (K : Dev nD × Ck → ℕ) (ck : Dev nD × Ck) :
    (bigSep Finset.univ fun ck : Dev nD × Ck => (cellInv ER (Rd m ρ) (K ck) (kcell ck) : sProp 𝕄)) ⊢ cellInv ER (Rd m ρ) (K ck) (kcell ck) :=
  bigSep_elim (Finset.mem_univ ck)
theorem reached_at (ck : Dev nD × Ck) :
    (bigSep Finset.univ fun ck : Dev nD × Ck => (reached ER (kcell ck) 0 : sProp 𝕄)) ⊢ reached ER (kcell ck) 0 :=
  bigSep_elim (Finset.mem_univ ck)

theorem Env_inv (K : Dev nD × Ck → ℕ) (ck : Dev nD × Ck) : Env m ρ K ⊢ cellInv ER (Rd m ρ) (K ck) (kcell ck) := by
  unfold Env records
  iintro ⟨⟨H, -⟩, -⟩
  iapply (inv_at m ρ K ck); iexact H
theorem Env_reached (K : Dev nD × Ck → ℕ) (ck : Dev nD × Ck) : Env m ρ K ⊢ reached ER (kcell ck) 0 := by
  unfold Env records
  iintro ⟨⟨-, H⟩, -⟩
  iapply (reached_at (F := F) ck); iexact H
theorem Env_lev (K : Dev nD × Ck → ℕ) : Env m ρ K ⊢ (levAts L lv : sProp 𝕄) := by
  unfold Env; iintro ⟨-, H⟩; iexact H

/-- What device `c` owes after its first `i` payments. -/
def Owes (c : Dev nD) (i : ℕ) : sProp 𝕄 := iprop(∃ W, owes (c : Thread nD τ) (Ow c (dues.drop i)) W)

/-- What issuing a transfer takes: its send cell's position and the tokens of its two payments. -/
def Snd (c : Dev nD) (t : Xf) : sProp 𝕄 :=
  iprop(atPos ER (sendCell c t) 0 ∅ 0 ∗ dutyTok ER (sendCell c t) 0 0 ∗ dutyTok ER (recvCell (nb (lk t) c) t) 0 0)
/-- What waiting for a landing takes, and what waiting for an issued transfer takes. -/
def Rcv (c : Dev nD) (t : Xf) : sProp 𝕄 := iprop(atPos ER (recvCell c t) 0 ∅ 0 ∗ cred (tallyAt (recvCell c t) () N))
def Fly (c : Dev nD) (t : Xf) : sProp 𝕄 := iprop(atPos ER (sendCell c t) 0 ∅ 0 ∗ cred (tallyAt (sendCell c t) () N))

/-- A semaphore of the protocol done with: its counter at zero. -/
def Zero (c : Dev nD) (k : Ck) : sProp 𝕄 := semVal (kcell (c, k)) 0

/-! ## Transfers -/

theorem mem_xfer (c : Dev nD) (b : Bool) (t : Xf) : (0 : Fin 3) ∈ (Rd (F := F) m ρ).duties (kcell (c, some (b, t))) 0 := by
  rw [duties_at]; exact Finset.mem_singleton_self _

/-- The source piece, holding what the transfer carries, pays the send cell; -/
theorem pay_sent (c : Dev nD) (t : Xf) (fs : Buf (Elt F) ((srcM t).view.loc (c : Thread nD τ)))
    (hfs : (srcM t).view.read (Elt F) fs = val m ρ t c) :
    ((srcM t).view.loc (c : Thread nD τ) ↦[(srcM t).view.set]{fullShare} fs : sProp 𝕄) ⊢ (Rd m ρ).payload (sendCell c t) 0 0 := by
  rw [payload_at]
  unfold pay at' owns
  iintro H; iexists fs; isplitr; · ipureintro; exact hfs
  iexact H
/-- the destination piece rewritten pays the receive cell at the far end. -/
theorem pay_landed (c : Dev nD) (t : Xf) (fd : Buf (Elt F) ((dstM t).view.loc (nb (lk t) c : Thread nD τ))) :
    ((dstM t).view.loc (nb (lk t) c : Thread nD τ) ↦[(dstM t).view.set]{fullShare} ((dstM t).view.write (Elt F) fd (val m ρ t c) Finset.univ) : sProp 𝕄)
      ⊢ (Rd m ρ).payload (recvCell (nb (lk t) c) t) 0 0 := by
  rw [payload_at, pay, bn_nb]
  unfold at' owns
  iintro H; iexists _; isplitr; swap; · iexact H
  ipureintro; exact View.read_write_univ _ _

/-- Issuing transfer `t`: the source piece at what `t` carries and the destination at any contents go in; the device
    may then wait for its send side, and one payment fewer is owed. -/
theorem wp_enq (K : Dev nD × Ck → ℕ) (c : Dev nD) (t : Xf) (i : ℕ) (hi : dues.drop i = .inr t :: dues.drop (i + 1))
    {n : Dev nD} (hn : n = nb (lk t) c)
    {src : Memref sig .tc .vmem S64x4096 .f32} {dst : Memref sig (Dev.tc n : Thread nD τ).2.kind .vmem S64x4096 .f32}
    (hs : src = srcM t) (hd : dst = dstM t) {qs qr : DmaSem sig} (hqs : qs = sendQ t) (hqr : qr = recvQ t)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α} :
    iprop(Env m ρ K ∗ Snd c t ∗ at' c (srcM t) (val m ρ t c) ∗ anyAt (nb (lk t) c) (dstM t) ∗ Owes c i)
      ⊢ iprop(((Fly c t ∗ Owes c (i + 1)) -∗ run c (k ⟨⟩) Q)
          -∗ run c (.op (.enqueueDma src (.remote (Dev.tc n : Thread nD τ) dst (.dma qs) hsc) (.dma qr) hsrc hdst hsem) k) Q) := by
  subst hn; subst hs; subst hd; subst hqs; subst hqr
  unfold Snd Fly Owes at' owns anyAt
  rw [hi]
  iintro ⟨#HE, ⟨Hat, HtS, HtR⟩, ⟨%fs, %hfs, Hsrc⟩, ⟨%fd, Hdst⟩, ⟨%W, HO⟩⟩ Hk
  have H := Rounds.wp_send_pointsTo (Γ := []) (defs := defs₀ (F := F)) (Es := Set.univ) (c' := (nb (lk t) c : Thread nD τ)) (src := srcM t) (dst := dstM t)
    (sS := .dma (sendQ t)) (sem := .dma (recvQ t)) (hsc := hsc) (hsrc := hsrc) (hdst := hdst) (hsem := hsem) (k := k) (Q := Q)
    𝒱₀ ER (Rd m ρ) (c : Thread nD τ) none (κ₁ := K (c, some (false, t))) (κ₂ := K (nb (lk t) c, some (true, t)))
    (r₁ := 0) (r₂ := 0) (d₁ := 0) (d₂ := 0) (fs := fs) (fd := fd) (q := fullShare)
    (mem_xfer m ρ c false t) (mem_xfer m ρ (nb (lk t) c) true t)
    () () N (show (dstM t).view.amount (.dma (recvQ t)) = N from credit_dst t)
    (amount_at m ρ c (some (false, t)) 0) (amount_at m ρ (nb (lk t) c) (some (true, t)) 0)
    (Ow c (dues.drop (i + 1))) (Ow_xfer c t _) (W := W)
    (pay_sent m ρ c t fs hfs) (by rw [hfs]; exact pay_landed m ρ c t fd)
  iapply H
    $$ [Hsrc Hdst HO HtS HtR]
  · isplitr; · iapply (Env_inv m ρ K (c, some (false, t))); iexact HE
    isplitr; · iapply (Env_inv m ρ K (nb (lk t) c, some (true, t))); iexact HE
    isplitl [Hsrc]; · iexact Hsrc
    isplitl [Hdst]; · iexact Hdst
    isplitl [HO]; · iexact HO
    isplitl [HtS]; · iexact HtS
    isplitr; · iapply (Env_reached m ρ K (c, some (false, t))); iexact HE
    isplitl [HtR]; · iexact HtR
    iapply (Env_reached m ρ K (nb (lk t) c, some (true, t))); iexact HE
  iintro ⟨Hc, HO⟩
  iapply Hk
  isplitl [Hat Hc]
  · isplitl [Hat]; · iexact Hat
    iexact Hc
  iexists W; iexact HO

/-- Waiting on the send side (`b = false`) or the landing (`b = true`) of transfer `t`: its piece comes, and the
    semaphore is done with. -/
theorem wp_fin (K : Dev nD × Ck → ℕ) (c : Dev nD) (b : Bool) (t : Xf) (i : ℕ)
    (hlev : ∀ k ∈ dues.drop i, level (some (b, t)) < level (dueCk k))
    {q : DmaSem sig} (hq : SemLoc.dma q = csem (some (b, t)))
    {ma mb : Memref sig .tc .vmem S64x4096 .f32} (hm : mb.view.dmaCredit = N)
    {ha : ma.view.WordExact} {hb : mb.view.WordExact}
    {α : Type} {Q : α → sProp 𝕄} {k : PUnit → Prog (TpuEff nD τ sig (Elt F) Λ₀ .tc) α} :
    iprop(Env m ρ K ∗ (atPos ER (kcell (c, some (b, t))) 0 ∅ 0 ∗ cred (tallyAt (kcell (c, some (b, t))) () N)) ∗ Owes c i)
      ⊢ iprop(((pay m ρ c (some (b, t)) 0 ∗ Zero c (some (b, t)) ∗ Owes c i) -∗ run c (k ⟨⟩) Q)
          -∗ run c (.op (.waitDma2 q ma mb ha hb) k) Q) := by
  unfold Owes Zero
  iintro ⟨#HE, ⟨Hat, Hc⟩, ⟨%W, HO⟩⟩ Hk
  have hg : ((c : Thread nD τ), SemLoc.dma q) = kcell (c, some (b, t)) := Prod.ext rfl hq
  iapply (Rounds.wp_wait_rest_token 𝒱₀ ER (Rd m ρ) (c : Thread nD τ) none (κ := K (c, some (b, t)))
      (wpE_waitDma2_eq 𝒱₀ (c : Thread nD τ) none Set.univ) (Set.mem_univ _) () (O := Ow c (dues.drop i)) (W := W) (R := 0) (m := 0) (T := ∅)
      (by rw [Nat.zero_add, hg, expect_xfer, hm])) $$ [Hc HO Hat]
  · rw [hg, hm]
    isplitr; · iapply (Env_inv m ρ K (c, some (b, t))); iexact HE
    isplitl [Hc]; · iexact Hc
    isplitl [HO]; · iexact HO
    isplitr
    · iapply (mayWait_of (F := F) c (SemLoc.dma q) (level (some (b, t))) (dues.drop i) (by rw [hg, lv_at]) hlev)
      iapply (Env_lev m ρ K); iexact HE
    iexact Hat
  rw [hg]
  iintro ⟨HO, Hat, -, Hpay⟩
  ihave Hp := (Entails.of_eq (rest_xfer m ρ c b t)) $$ Hpay
  imod (Rounds.cell_close ER (Rd m ρ) (Set.mem_univ (K (c, some (b, t)))) (fun h => h) (R := 0 + 1) (duties_later m ρ (kcell (c, some (b, t))))) $$ [Hat] with Hz
  · isplitr; · iapply (Env_inv m ρ K (c, some (b, t))); iexact HE
    iexact Hat
  iapply Hk
  isplitl [Hp]; · iexact Hp
  isplitl [Hz]; · iexact Hz
  iexists _; iexact HO

/-- Waiting for an issued transfer: the source piece back. -/
theorem wp_sent (K : Dev nD × Ck → ℕ) (c : Dev nD) (t : Xf) (i : ℕ)
    (hlev : ∀ k ∈ dues.drop i, level (some (false, t)) < level (dueCk k))
    {q : DmaSem sig} (hq : q = sendQ t)
    {ma mb : Memref sig .tc .vmem S64x4096 .f32} (hm : mb.view.dmaCredit = N)
    {ha : ma.view.WordExact} {hb : mb.view.WordExact}
    {α : Type} {Q : α → sProp 𝕄} {k : PUnit → Prog (TpuEff nD τ sig (Elt F) Λ₀ .tc) α} :
    iprop(Env m ρ K ∗ Fly c t ∗ Owes c i)
      ⊢ iprop(((at' c (srcM t) (val m ρ t c) ∗ Zero c (some (false, t)) ∗ Owes c i) -∗ run c (k ⟨⟩) Q)
          -∗ run c (.op (.waitDma2 q ma mb ha hb) k) Q) := by
  subst hq; exact wp_fin m ρ K c false t i hlev rfl hm

/-- Waiting for a landing: the landed piece at what the link's other end sent. -/
theorem wp_landed (K : Dev nD × Ck → ℕ) (c : Dev nD) (t : Xf) (i : ℕ)
    (hlev : ∀ k ∈ dues.drop i, level (some (true, t)) < level (dueCk k))
    {q : DmaSem sig} (hq : q = recvQ t)
    {ma mb : Memref sig .tc .vmem S64x4096 .f32} (hm : mb.view.dmaCredit = N)
    {ha : ma.view.WordExact} {hb : mb.view.WordExact}
    {α : Type} {Q : α → sProp 𝕄} {k : PUnit → Prog (TpuEff nD τ sig (Elt F) Λ₀ .tc) α} :
    iprop(Env m ρ K ∗ Rcv c t ∗ Owes c i)
      ⊢ iprop(((at' c (dstM t) (val m ρ t (bn (lk t) c)) ∗ Zero c (some (true, t)) ∗ Owes c i) -∗ run c (k ⟨⟩) Q)
          -∗ run c (.op (.waitDma2 q ma mb ha hb) k) Q) := by
  subst hq; exact wp_fin m ρ K c true t i hlev rfl hm

end Cert.KernelIdeal.RS

end
-- ==== Proof.Steps.lean ====
/- The remaining kinds of step: a barrier signal, the barrier wait, a block of columns read, and a piece of a
   communication buffer, or a whole first slot, read or rewritten. -/
module

public import proofs.«01_k».proof.Proof.Rules
public import Idealize.ShloMosaic.Lib.Pipeline.Value

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The barrier -/

theorem Ow_bar (c : Dev nD) (d : Fin 3) (ks : List Due) :
    Ow c (.inl d :: ks) = Ow c ks + tallyAt (barCell (bn d c)) () 1 := rfl

/-- Signalling the barrier of neighbour `bn d c`: the pieces that neighbour writes go with it. -/
theorem wp_sig (K : Dev nD × Ck → ℕ) (c : Dev nD) (d : Fin 3) (i : ℕ) (hi : dues.drop i = .inl d :: dues.drop (i + 1))
    {n : Dev nD} (hn : n = bn d c)
    {α : Type} {Q : α → sProp 𝕄} {k : PUnit → Prog (TpuEff nD τ sig (Elt F) Λ₀ .tc) α} :
    iprop(Env m ρ K ∗ dutyTok ER (barCell (bn d c)) 0 d ∗ barPay (bn d c) d ∗ Owes c i)
      ⊢ iprop((Owes c (i + 1) -∗ run c (k ⟨⟩) Q) -∗ run c (.op (.semSignal (Dev.tc n : Thread nD τ) barS (1#32 : BitVec 32).toInt) k) Q) := by
  subst hn
  unfold Owes
  rw [hi]
  iintro ⟨#HE, Ht, Hp, ⟨%W, HO⟩⟩ Hk
  iapply (Rounds.wp_signal 𝒱₀ ER (Rd m ρ) (c : Thread nD τ) none (dst := (bn d c : Thread nD τ)) (κ := K (bn d c, none))
      (d := d) ((Finset.ext_iff.mp (duties_at m ρ (bn d c) none) d).mpr (Finset.mem_univ d)) ((amount_at m ρ (bn d c) none d).trans (by decide)) () (Ow c (dues.drop (i + 1))) (Ow_bar c d _))
    $$ [HO Ht Hp]
  · isplitr; · iapply (Env_inv m ρ K (bn d c, none)); iexact HE
    isplitl [HO]; · iexact HO
    isplitl [Ht]; · iexact Ht
    isplitl [Hp]; · iapply (show barPay (bn d c) d ⊢ (Rd m ρ).payload ((bn d c : Thread nD τ), SemLoc.reg barS) 0 d from Entails.of_eq (payload_at m ρ (bn d c) none d).symm); iexact Hp
    iapply (Env_reached m ρ K (bn d c, none)); iexact HE
  iintro HO; iapply Hk; iexists W; iexact HO

/-- The wait for the three neighbours: the pieces this device writes at each of them come. -/
theorem wp_bar (K : Dev nD × Ck → ℕ) (c : Dev nD) (i : ℕ) (hlev : ∀ k ∈ dues.drop i, level none < level (dueCk k))
    {α : Type} {Q : α → sProp 𝕄} {k : PUnit → Prog (TpuEff nD τ sig (Elt F) Λ₀ .tc) α} :
    iprop(Env m ρ K ∗ (atPos ER (barCell c) 0 ∅ 0 ∗ cred (tallyAt (barCell c) () 3)) ∗ Owes c i)
      ⊢ iprop(((land (nb 0 c) 0 ∗ land (nb 1 c) 1 ∗ landC (nb 2 c) ∗ Zero c none ∗ Owes c i) -∗ run c (k ⟨⟩) Q)
          -∗ run c (.op (.semWait barS (3#32 : BitVec 32).toInt) k) Q) := by
  unfold Owes Zero
  iintro ⟨#HE, ⟨Hat, Hc⟩, ⟨%W, HO⟩⟩ Hk
  iapply (Rounds.wp_wait_rest_token 𝒱₀ ER (Rd m ρ) (c : Thread nD τ) none (κ := K (c, none))
      (wpE_semWait_eq 𝒱₀ (c : Thread nD τ) none Set.univ) (Set.mem_univ _) () (O := Ow c (dues.drop i)) (W := W) (R := 0) (m := 0) (T := ∅)
      ((by decide : 0 + (3#32 : BitVec 32).toNat = 3).trans (expect_bar m ρ c).symm)) $$ [Hc HO Hat]
  · isplitr; · iapply (Env_inv m ρ K (c, none)); iexact HE
    isplitl [Hc]; · iexact Hc
    isplitl [HO]; · iexact HO
    isplitr
    · iapply (mayWait_of (F := F) c (csem none) (level none) (dues.drop i) (by rw [lv_at]) hlev)
      iapply (Env_lev m ρ K); iexact HE
    iexact Hat
  iintro ⟨HO, Hat, -, Hpay⟩
  have hrest : (bigSep ((Rd m ρ).duties ((c : Thread nD τ), SemLoc.reg barS) 0 \ ∅) fun d => (Rd m ρ).payload ((c : Thread nD τ), SemLoc.reg barS) 0 d)
      = iprop(land (nb 0 c) 0 ∗ land (nb 1 c) 1 ∗ landC (nb 2 c)) := rest_bar m ρ c
  ihave Hp := (Entails.of_eq hrest) $$ Hpay
  icases Hp with ⟨H0, H1, H2⟩
  imod (Rounds.cell_close ER (Rd m ρ) (Set.mem_univ (K (c, none))) (fun h => h) (R := 0 + 1) (duties_later m ρ (kcell (c, none)))) $$ [Hat] with Hz
  · isplitr; · iapply (Env_inv m ρ K (c, none)); iexact HE
    iexact Hat
  iapply Hk
  isplitl [H0]; · iexact H0
  isplitl [H1]; · iexact H1
  isplitl [H2]; · iexact H2
  isplitl [Hz]; · iexact Hz
  iexists _; iexact HO

/-! ## Operands read -/

theorem hz2 : (![0, 0] : Fin 2 → Nat) = fun _ => 0 := funext fun a => by fin_cases a <;> rfl

/-- The left operand's staging buffer, holding device `c`'s block. -/
def xPts (c : Dev nD) : sProp 𝕄 := iprop((c : Thread nD τ).loc cc0_stg0_0 ↦{fullShare} xstg m ρ c)
def yPts (c : Dev nD) : sProp 𝕄 := iprop((c : Thread nD τ).loc cc0_stg1_0 ↦{fullShare} ystg m ρ c)

theorem wp_load_x (c e : Dev nD) {off : Fin 2 → ℕ} (h : off = colOff e) {inb : ∀ a, off a + S1024x128.size a ≤ S1024x1024.size a}
    {hl : xM.view.LoadsAt (Rect.unit (s := S1024x1024) off S1024x128.size inb).toLoadRect}
    {α : Type} {Q : α → sProp 𝕄} {k : Vec F S1024x128 .f32 → Prog (TpuEff nD τ sig (Elt F) Λ₀ .tc) α} :
    xPts m ρ c ⊢ iprop((xPts m ρ c -∗ run c (k (xcols m ρ c e)) Q)
      -∗ run c (.op (.load xM (Rect.unit (s := S1024x1024) off S1024x128.size inb).toLoadRect hl) k) Q) := by
  subst h
  exact wp_load 𝒱₀ (c : Thread nD τ) none Set.univ (m := xM) (Finset.subset_univ _)

theorem wp_load_y (c : Dev nD) {inb : ∀ a, (![0, 0] : Fin 2 → ℕ) a + S1024x4096.size a ≤ S1024x4096.size a}
    {hl : yM.view.LoadsAt (Rect.unit (s := S1024x4096) ![0, 0] S1024x4096.size inb).toLoadRect}
    {α : Type} {Q : α → sProp 𝕄} {k : Vec F S1024x4096 .f32 → Prog (TpuEff nD τ sig (Elt F) Λ₀ .tc) α} :
    yPts m ρ c ⊢ iprop((yPts m ρ c -∗ run c (k (ystg m ρ c)) Q)
      -∗ run c (.op (.load yM (Rect.unit (s := S1024x4096) ![0, 0] S1024x4096.size inb).toLoadRect hl) k) Q) := by
  have h := wp_load (Γ := []) (defs := defs₀ (F := F)) 𝒱₀ (c : Thread nD τ) none Set.univ (m := yM) (hl := hl) (k := k) (Q := Q) (f := ystg m ρ c)
    (q := fullShare) (S := Finset.univ) (Finset.subset_univ _)
  rw [show yM.view.readAt (Elt F) (Rect.unit (s := S1024x4096) ![0, 0] S1024x4096.size inb).toLoadRect (ystg m ρ c) = ystg m ρ c from
    Memref.readAt_unit_zero (Elt F) cc0_stg1_0 hz2 _ _] at h
  exact h

/-! ## Pieces of a buffer -/

section Piece

variable {sh : Shape} (M : Memref sig .tc .vmem sh .f32) (r : Rect sh) (hr : ∀ a, r.stride a = 1)

/-- A part of a buffer on device `c`, held at some contents. -/
def someAt (c : Dev nD) : sProp 𝕄 := iprop(∃ f, M.view.loc (c : Thread nD τ) ↦[(M.view.slice r).set]{fullShare} f)

/-- Reading a piece gives its contents, with the axes of size one back. -/
theorem wp_load_piece (hsq : r.shape.Squeezes S64x4096) (c : Dev nD) (X : FVec F S64x4096 .f32) (h : S64x4096.ShapeCasts r.shape)
    {hl : M.view.LoadsAt r.toLoadRect} {α : Type} {Q : α → sProp 𝕄} {k : (r.shape.Idx → Elt F .f32) → Prog (TpuEff nD τ sig (Elt F) Λ₀ .tc) α} :
    at' c ((M.slice r hr).squeeze S64x4096 hsq) X
      ⊢ iprop((at' c ((M.slice r hr).squeeze S64x4096 hsq) X -∗ run c (k (shapeCast r.shape X h)) Q)
        -∗ run c (.op (.load M r.toLoadRect hl) k) Q) := by
  unfold at' owns
  iintro ⟨%f, %hf, H⟩ Hk
  have hread : (M.access r).read (Elt F) f = shapeCast r.shape X h := by
    funext i
    unfold shapeCast
    rw [← hf]
    show _ = (M.access r).read (Elt F) f (Shape.reshapeEquiv hsq.numel_eq (Shape.reshapeEquiv _ i))
    rw [Shape.reshapeEquiv_reshapeEquiv, Shape.reshapeEquiv_self]
  have hw := wp_load_rect (Γ := []) (defs := defs₀ (F := F)) 𝒱₀ (c : Thread nD τ) none Set.univ (m := M) (r := r) (hl := hl) (k := k) (Q := Q) (f := f)
    (q := fullShare) (S := (M.access r).set) (Finset.Subset.refl _)
  rw [hread] at hw
  have hset : ((M.slice r hr).squeeze S64x4096 hsq).view.set = (M.access r).set := View.set_reshape _ _
  rw [hset]
  iapply hw $$ H
  iintro H
  iapply Hk
  iexists f
  isplitr; · ipureintro; exact hf
  iexact H

/-- Rewriting a piece. -/
theorem wp_store_piece (hsq : r.shape.Squeezes S64x4096) (c : Dev nD) (X Y : FVec F S64x4096 .f32) {w : r.shape.Idx → Elt F .f32}
    (h : S64x4096.ShapeCasts r.shape) (hw : w = shapeCast r.shape Y h)
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    at' c ((M.slice r hr).squeeze S64x4096 hsq) X
      ⊢ iprop((at' c ((M.slice r hr).squeeze S64x4096 hsq) Y -∗ run c (k ⟨⟩) Q)
        -∗ run c (.op (.store M r w Finset.univ hx hm) k) Q) := by
  subst hw
  unfold at' owns
  iintro ⟨%f, %hf, H⟩ Hk
  have hset : ((M.slice r hr).squeeze S64x4096 hsq).view.set = (M.access r).set := View.set_reshape _ _
  have hw := wp_store (Γ := []) (defs := defs₀ (F := F)) 𝒱₀ (c : Thread nD τ) none Set.univ (m := M) (r := r) (w := shapeCast r.shape Y h)
    (Mk := Finset.univ) (hx := hx) (hm := hm) (k := k) (Q := Q) (f := f) (S := (M.access r).set) (Finset.Subset.refl _)
  rw [hset]
  iapply hw $$ H
  iintro H
  iapply Hk
  iexists _
  isplitr; swap
  · iexact H
  ipureintro
  funext i
  show (M.access r).read (Elt F) _ (Shape.reshapeEquiv hsq.numel_eq i) = _
  rw [View.read_write_univ]
  unfold shapeCast
  rw [Shape.reshapeEquiv_reshapeEquiv, Shape.reshapeEquiv_self]

/-- A part held at some contents may be read, whatever is done with it, -/
theorem wp_load_some (c : Dev nD) {hl : M.view.LoadsAt r.toLoadRect} {α : Type} {Q : α → sProp 𝕄}
    {p : Prog (TpuEff nD τ sig (Elt F) Λ₀ .tc) α} :
    someAt M r c ⊢ iprop((someAt M r c -∗ run c p Q) -∗ run c (.op (.load M r.toLoadRect hl) fun _ => p) Q) := by
  unfold someAt
  iintro ⟨%f, H⟩ Hk
  have hw := wp_load_rect (Γ := []) (defs := defs₀ (F := F)) 𝒱₀ (c : Thread nD τ) none Set.univ (m := M) (r := r) (hl := hl) (k := fun _ => p) (Q := Q) (f := f)
    (q := fullShare) (S := (M.access r).set) (Finset.Subset.refl _)
  iapply hw $$ H
  iintro H
  iapply Hk
  iexists f; iexact H

/-- and rewritten. -/
theorem wp_store_some (c : Dev nD) {w : r.shape.Idx → Elt F .f32}
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    someAt M r c ⊢ iprop((owns (c : Thread nD τ) (M.slice r hr) fullShare w -∗ run c (k ⟨⟩) Q)
        -∗ run c (.op (.store M r w Finset.univ hx hm) k) Q) := by
  unfold someAt owns
  iintro ⟨%f, H⟩ Hk
  have hw := wp_store (Γ := []) (defs := defs₀ (F := F)) 𝒱₀ (c : Thread nD τ) none Set.univ (m := M) (r := r) (w := w)
    (Mk := Finset.univ) (hx := hx) (hm := hm) (k := k) (Q := Q) (f := f) (S := (M.access r).set) (Finset.Subset.refl _)
  iapply hw $$ H
  iintro H
  iapply Hk
  iexists _
  isplitr; swap
  · iexact H
  ipureintro; exact View.read_write_univ _ _

end Piece

/-! ## A first slot as its two halves -/

/-- An index of a shape with two leading axes of size one. -/
theorem reshape_two_units {n : Nat} {d : Fin n → Nat}
    (h : (⟨n, d⟩ : Shape).numel = (⟨n + 2, Matrix.vecCons 1 (Matrix.vecCons 1 d)⟩ : Shape).numel) (x : (⟨n, d⟩ : Shape).Idx) :
    Shape.reshapeEquiv h x = Fin.cons ⟨0, Nat.one_pos⟩ (Fin.cons ⟨0, Nat.one_pos⟩ x) := by
  have h1 : (⟨n, d⟩ : Shape).numel = (⟨n + 1, Matrix.vecCons 1 d⟩ : Shape).numel := by
    simp [Shape.numel, Fin.prod_univ_succ]
  have h2 : (⟨n + 1, Matrix.vecCons 1 d⟩ : Shape).numel = (⟨n + 2, Matrix.vecCons 1 (Matrix.vecCons 1 d)⟩ : Shape).numel := by
    rw [← h1, h]
  have e1 := Shape.reshapeEquiv_cons_one h1 x
  have e2 := Shape.reshapeEquiv_cons_one h2 (Shape.reshapeEquiv h1 x)
  rw [Shape.reshapeEquiv_reshapeEquiv] at e2
  rw [e1] at e2
  exact e2

/-- Row `i` of half `j`, among the 128 rows. -/
def rows (j : Fin 2) (x : S64x4096.Idx) : S128x4096.Idx :=
  fun a => match a with
  | ⟨0, _⟩ => ⟨64 * j.val + (x (0 : Fin 2)).val, by have := (x (0 : Fin 2)).isLt; simp at this; show _ < 128; omega⟩
  | ⟨1, _⟩ => ⟨(x (1 : Fin 2)).val, (x (1 : Fin 2)).isLt⟩

theorem half_apply (j : Fin 2) (v : FVec F S128x4096 .f32) (x : S64x4096.Idx) : half j v x = v (rows j x) := by
  match j with
  | 0 => exact extractStridedSlice_apply _ v slices_S128x4096_o0_0_S64x4096 x _ (fun a => by fin_cases a <;> first | rfl | exact (Nat.zero_add _).symm)
  | 1 => exact extractStridedSlice_apply _ v slices_S128x4096_o64_0_S64x4096 x _ (fun a => by fin_cases a <;> first | rfl | exact (Nat.zero_add _).symm)

theorem split_halves {sh : Shape} (M : Memref sig .tc .vmem sh .f32) (R r0 r1 : Rect sh) (hR : ∀ a, R.stride a = 1)
    (h0 : ∀ a, r0.stride a = 1) (h1 : ∀ a, r1.stride a = 1) (q0 : r0.shape.Squeezes S64x4096) (q1 : r1.shape.Squeezes S64x4096)
    (hset : R.set = r0.set ∪ r1.set) (hdis : Disjoint r0.set r1.set) (h : S128x4096.ShapeCasts R.shape)
    (e0 : ∀ x, ∃ y, r0.emb (Shape.reshapeEquiv q0.numel_eq x) = R.emb y ∧ Shape.reshapeEquiv h y = rows 0 x)
    (e1 : ∀ x, ∃ y, r1.emb (Shape.reshapeEquiv q1.numel_eq x) = R.emb y ∧ Shape.reshapeEquiv h y = rows 1 x)
    (c : Dev nD) (W : FVec F S128x4096 .f32) :
    (owns (c : Thread nD τ) (M.slice R hR) fullShare (shapeCast R.shape W h) : sProp 𝕄)
      ⊢ iprop(at' c ((M.slice r0 h0).squeeze S64x4096 q0) (half 0 W) ∗ at' c ((M.slice r1 h1).squeeze S64x4096 q1) (half 1 W)) := by
  unfold at' owns
  iintro ⟨%f, %hf, H⟩
  have hs : (M.slice R hR).view.set = ((M.slice r0 h0).squeeze S64x4096 q0).view.set ∪ ((M.slice r1 h1).squeeze S64x4096 q1).view.set := by
    rw [show ((M.slice r0 h0).squeeze S64x4096 q0).view.set = (M.view.slice r0).set from View.set_reshape _ _,
      show ((M.slice r1 h1).squeeze S64x4096 q1).view.set = (M.view.slice r1).set from View.set_reshape _ _,
      show (M.slice R hR).view.set = (M.view.slice R).set from rfl, View.set_slice, View.set_slice, View.set_slice, hset, Finset.map_union]
  have hd : Disjoint ((M.slice r0 h0).squeeze S64x4096 q0).view.set ((M.slice r1 h1).squeeze S64x4096 q1).view.set := by
    rw [show ((M.slice r0 h0).squeeze S64x4096 q0).view.set = (M.view.slice r0).set from View.set_reshape _ _,
      show ((M.slice r1 h1).squeeze S64x4096 q1).view.set = (M.view.slice r1).set from View.set_reshape _ _, View.set_slice, View.set_slice]
    exact (Finset.disjoint_map _).mpr hdis
  rw [hs]
  ihave H' := ((pointsTo_union (Val := Elt F) hd).1) $$ H
  icases H' with ⟨H0, H1⟩
  have hv (y : R.shape.Idx) : M.view.read (Elt F) f (R.emb y) = W (Shape.reshapeEquiv h y) := congrFun hf y
  isplitl [H0]
  · iexists f
    isplitr; swap
    · iexact H0
    ipureintro; funext x
    obtain ⟨y, hy, hy'⟩ := e0 x
    rw [half_apply, ← hy', ← hv, ← hy]; rfl
  · iexists f
    isplitr; swap
    · iexact H1
    ipureintro; funext x
    obtain ⟨y, hy, hy'⟩ := e1 x
    rw [half_apply, ← hy', ← hv, ← hy]; rfl

/-- The first slot of link `l`, rewritten with 128 rows, as its two halves. -/
theorem slot_halves (l : Fin 2) (c : Dev nD) (W : FVec F S128x4096 .f32) :
    (owns (c : Thread nD τ) (commM.slice (slotR l) (fun _ => rfl)) fullShare (shapeCast S1x1x128x4096 W shapeCasts_S128x4096_S1x1x128x4096) : sProp 𝕄)
      ⊢ iprop(at' c (cm l 0 0) (half 0 W) ∗ at' c (cm l 0 1) (half 1 W)) := by
  have he : ∀ (j : Fin 2) (x : S64x4096.Idx), ∃ y, (cmR l 0 j).emb (Shape.reshapeEquiv squeezes_S1x1x64x4096_S64x4096.numel_eq x) = (slotR l).emb y
      ∧ Shape.reshapeEquiv shapeCasts_S128x4096_S1x1x128x4096 y = rows j x := by
    intro j x
    refine ⟨Shape.reshapeEquiv shapeCasts_S128x4096_S1x1x128x4096.symm (rows j x), ?_, ?_⟩
    · rw [show Shape.reshapeEquiv squeezes_S1x1x64x4096_S64x4096.numel_eq x = _ from reshape_two_units _ x,
        show Shape.reshapeEquiv shapeCasts_S128x4096_S1x1x128x4096.symm (rows j x) = _ from reshape_two_units _ (rows j x)]
      funext a
      apply Fin.ext
      fin_cases a
      · rfl
      · rfl
      · show 64 * j.val + 1 * (x 0).val = 0 + 1 * (64 * j.val + (x 0).val); omega
      · rfl
    · rw [Shape.reshapeEquiv_reshapeEquiv, Shape.reshapeEquiv_self]
  exact split_halves commM (slotR l) (cmR l 0 0) (cmR l 0 1) (fun _ => rfl) (fun _ => rfl) (fun _ => rfl) _ _
    (by
      ext i; rw [Finset.mem_union, Rect.mem_set_unit, Rect.mem_set_unit, Rect.mem_set_unit]
      simp [Fin.forall_fin_succ]
      omega)
    (Rect.unit_disjoint (2 : Fin 4) (.inl (by show 64 * 0 + 64 ≤ 64 * 1; decide))) shapeCasts_S128x4096_S1x1x128x4096 (he 0) (he 1) c W

/-- The chord's first slot likewise. -/
theorem cut_halves (c : Dev nD) (W : FVec F S128x4096 .f32) :
    (owns (c : Thread nD τ) (cutM.slice cutR (fun _ => rfl)) fullShare (shapeCast S1x128x4096 W shapeCasts_S128x4096_S1x128x4096) : sProp 𝕄)
      ⊢ iprop(at' c (sc 0 0) (half 0 W) ∗ at' c (sc 0 1) (half 1 W)) := by
  have he : ∀ (j : Fin 2) (x : S64x4096.Idx), ∃ y, (scR 0 j).emb (Shape.reshapeEquiv squeezes_S1x64x4096_S64x4096.numel_eq x) = cutR.emb y
      ∧ Shape.reshapeEquiv shapeCasts_S128x4096_S1x128x4096 y = rows j x := by
    intro j x
    refine ⟨Shape.reshapeEquiv shapeCasts_S128x4096_S1x128x4096.symm (rows j x), ?_, ?_⟩
    · rw [show Shape.reshapeEquiv squeezes_S1x64x4096_S64x4096.numel_eq x = _ from Shape.reshapeEquiv_cons_one _ x,
        show Shape.reshapeEquiv shapeCasts_S128x4096_S1x128x4096.symm (rows j x) = _ from Shape.reshapeEquiv_cons_one _ (rows j x)]
      funext a
      apply Fin.ext
      fin_cases a
      · rfl
      · show 64 * j.val + 1 * (x 0).val = 0 + 1 * (64 * j.val + (x 0).val); omega
      · rfl
    · rw [Shape.reshapeEquiv_reshapeEquiv, Shape.reshapeEquiv_self]
  exact split_halves cutM cutR (scR 0 0) (scR 0 1) (fun _ => rfl) (fun _ => rfl) (fun _ => rfl) _ _
    (by
      ext i; rw [Finset.mem_union, Rect.mem_set_unit, Rect.mem_set_unit, Rect.mem_set_unit]
      simp [Fin.forall_fin_succ]
      omega)
    (Rect.unit_disjoint (1 : Fin 3) (.inl (by show 64 * 0 + 64 ≤ 64 * 1; decide))) shapeCasts_S128x4096_S1x128x4096 (he 0) (he 1) c W

/-! ## The result's buffer -/

/-- 128 rows from their two halves. -/
def stack (h₀ h₁ : FVec F S64x4096 .f32) : FVec F S128x4096 .f32 := fun i =>
  if h : (i (0 : Fin 2)).val < 64 then h₀ (fun a => match a with
      | ⟨0, _⟩ => ⟨(i (0 : Fin 2)).val, h⟩
      | ⟨1, _⟩ => ⟨(i (1 : Fin 2)).val, (i (1 : Fin 2)).isLt⟩)
  else h₁ (fun a => match a with
      | ⟨0, _⟩ => ⟨(i (0 : Fin 2)).val - 64, by have : (i (0 : Fin 2)).val < 128 := (i (0 : Fin 2)).isLt; show _ < 64; omega⟩
      | ⟨1, _⟩ => ⟨(i (1 : Fin 2)).val, (i (1 : Fin 2)).isLt⟩)

theorem read_written {κ : Kind} {sp : Space} {s : Shape} (v : View sig κ sp s .f32) (r : Rect s) (g : v.ty.Contents (Elt F)) (w : r.shape.Idx → Elt F .f32)
    (x : r.shape.Idx) (i : s.Idx) (hi : i = r.emb x) : v.read (Elt F) ((v.slice r).write (Elt F) g w Finset.univ) i = w x := by
  subst hi
  exact View.read_slice_write_emb r g w (Finset.mem_univ x)

theorem read_unwritten {κ : Kind} {sp : Space} {s : Shape} (v : View sig κ sp s .f32) (r : Rect s) (g : v.ty.Contents (Elt F)) (w : r.shape.Idx → Elt F .f32)
    (i : s.Idx) (hi : ∀ x, r.emb x ≠ i) : v.read (Elt F) ((v.slice r).write (Elt F) g w Finset.univ) i = v.read (Elt F) g i :=
  View.read_slice_write_of_not_mem _ _ _ _ fun hm => by
    obtain ⟨x, -, hx⟩ := Finset.mem_map.mp hm
    exact hi x hx

/-- A buffer's contents after a whole rectangle of it is written. -/
def put {κ : Kind} {sp : Space} {s : Shape} (v : View sig κ sp s .f32) (r : Rect s) (g : v.ty.Contents (Elt F)) (w : r.shape.Idx → Elt F .f32) :
    v.ty.Contents (Elt F) := (v.slice r).write (Elt F) g w Finset.univ

/-- Two writes, the second's rectangle first, leave `g` if every element has its value from one of them. -/
theorem read_two {κ : Kind} {sp : Space} {s : Shape} (v : View sig κ sp s .f32) (f : v.ty.Contents (Elt F)) (r₀ r₁ : Rect s)
    (h₀ : r₀.shape.Idx → Elt F .f32) (h₁ : r₁.shape.Idx → Elt F .f32) (g : s.Idx → Elt F .f32)
    (H : ∀ i, (∃ x, i = r₁.emb x ∧ h₁ x = g i) ∨ ((∀ x, r₁.emb x ≠ i) ∧ ∃ x, i = r₀.emb x ∧ h₀ x = g i)) :
    v.read (Elt F) (put v r₁ (put v r₀ f h₀) h₁) = g := by
  unfold put
  funext i
  rcases H i with ⟨x, hx, hg⟩ | ⟨hn, x, hx, hg⟩
  · exact (read_written v r₁ _ h₁ x i hx).trans hg
  · exact (read_unwritten v r₁ _ h₁ i hn).trans ((read_written v r₀ f h₀ x i hx).trans hg)

theorem stack_cases (h₀ h₁ : FVec F S64x4096 .f32) (b0 b1) (i : S128x4096.Idx) :
    (∃ x : S64x4096.Idx, i = (Rect.unit (s := S128x4096) ![64, 0] S64x4096.size b1).emb x ∧ h₁ x = stack h₀ h₁ i)
      ∨ ((∀ x : S64x4096.Idx, (Rect.unit (s := S128x4096) ![64, 0] S64x4096.size b1).emb x ≠ i)
        ∧ ∃ x : S64x4096.Idx, i = (Rect.unit (s := S128x4096) ![0, 0] S64x4096.size b0).emb x ∧ h₀ x = stack h₀ h₁ i) := by
  have hlt : (i (0 : Fin 2)).val < 128 := (i (0 : Fin 2)).isLt
  by_cases h : (i (0 : Fin 2)).val < 64
  · refine .inr ⟨fun x hx => ?_, _, ?_, (by unfold stack; rw [dif_pos h])⟩
    · have h1 : 64 + 1 * (x (0 : Fin 2)).val = (i (0 : Fin 2)).val := congrArg (fun z : S128x4096.Idx => (z (0 : Fin 2)).val) hx
      omega
    · funext a; apply Fin.ext; fin_cases a
      · show (i (0 : Fin 2)).val = 0 + 1 * (i (0 : Fin 2)).val; omega
      · show (i (1 : Fin 2)).val = 0 + 1 * (i (1 : Fin 2)).val; omega
  · refine .inl ⟨_, ?_, (by unfold stack; rw [dif_neg h])⟩
    funext a; apply Fin.ext; fin_cases a
    · show (i (0 : Fin 2)).val = 64 + 1 * ((i (0 : Fin 2)).val - 64); omega
    · show (i (1 : Fin 2)).val = 0 + 1 * (i (1 : Fin 2)).val; omega

theorem read_o (f : cc0_stg2_0.ty.Contents (Elt F)) : oM.view.read (Elt F) f = f := rfl

/-- The two writes of 64 rows leave the two halves, whatever was there. -/
theorem stack_writes (f : cc0_stg2_0.ty.Contents (Elt F)) (h₀ h₁ : FVec F S64x4096 .f32)
    (b0 : ∀ a, (![0, 0] : Fin 2 → ℕ) a + S64x4096.size a ≤ S128x4096.size a) (b1 : ∀ a, (![64, 0] : Fin 2 → ℕ) a + S64x4096.size a ≤ S128x4096.size a) :
    put oM.view (Rect.unit (s := S128x4096) ![64, 0] S64x4096.size b1)
      (put oM.view (Rect.unit (s := S128x4096) ![0, 0] S64x4096.size b0) f h₀) h₁ = stack h₀ h₁ := by
  have h := read_two oM.view f (Rect.unit (s := S128x4096) ![0, 0] S64x4096.size b0) (Rect.unit (s := S128x4096) ![64, 0] S64x4096.size b1) h₀ h₁
    (stack h₀ h₁) (stack_cases h₀ h₁ b0 b1)
  exact (read_o _).symm.trans h

/-- The result's staging buffer, at given contents. -/
def oPts (c : Dev nD) (f : cc0_stg2_0.ty.Contents (Elt F)) : sProp 𝕄 := iprop((c : Thread nD τ).loc cc0_stg2_0 ↦{fullShare} f)

theorem wp_load_o (c : Dev nD) (f : cc0_stg2_0.ty.Contents (Elt F)) {r : LoadRect S128x4096} {hl : oM.view.LoadsAt r}
    {α : Type} {Q : α → sProp 𝕄} {p : Prog (TpuEff nD τ sig (Elt F) Λ₀ .tc) α} :
    oPts c f ⊢ iprop((oPts c f -∗ run c p Q) -∗ run c (.op (.load oM r hl) fun _ => p) Q) := by
  unfold oPts
  exact wp_load (Γ := []) (defs := defs₀ (F := F)) 𝒱₀ (c : Thread nD τ) none Set.univ (m := oM) (hl := hl) (k := fun _ => p) (Q := Q) (f := f)
    (q := fullShare) (S := Finset.univ) (Finset.subset_univ _)

theorem wp_store_o (c : Dev nD) (f : cc0_stg2_0.ty.Contents (Elt F)) {r : Rect S128x4096} {w : r.shape.Idx → Elt F .f32}
    {hx : (oM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    oPts c f ⊢ iprop((oPts c (put oM.view r f w) -∗ run c (k ⟨⟩) Q)
      -∗ run c (.op (.store oM r w Finset.univ hx hm) k) Q) := by
  unfold oPts
  exact wp_store (Γ := []) (defs := defs₀ (F := F)) 𝒱₀ (c : Thread nD τ) none Set.univ (m := oM) (r := r) (w := w) (Mk := Finset.univ) (hx := hx) (hm := hm)
    (k := k) (Q := Q) (f := f) (S := Finset.univ) (Finset.subset_univ _)

/-- What one buffer's piece gains: the added values, with the axes of size one back. -/
theorem acc_piece (X D : FVec F S64x4096 .f32) :
    shapeCast S1x1x64x4096 (addf (shapeCast S64x4096 (shapeCast S1x1x64x4096 X shapeCasts_S64x4096_S1x1x64x4096) shapeCasts_S1x1x64x4096_S64x4096) D)
        shapeCasts_S64x4096_S1x1x64x4096
      = shapeCast S1x1x64x4096 (addf X D) shapeCasts_S64x4096_S1x1x64x4096 := by
  simp only [shapeCast_shapeCast, shapeCast_self]

/-- What is read from a piece, without the axes of size one. -/
theorem of_piece (X : FVec F S64x4096 .f32) :
    shapeCast S64x4096 (shapeCast S1x1x64x4096 X shapeCasts_S64x4096_S1x1x64x4096) shapeCasts_S1x1x64x4096_S64x4096 = X := by
  simp only [shapeCast_shapeCast, shapeCast_self]

theorem of_cut (X : FVec F S64x4096 .f32) (h : S64x4096.ShapeCasts S1x64x4096) :
    shapeCast S64x4096 (shapeCast S1x64x4096 X h) shapeCasts_S1x64x4096_S64x4096 = X := by
  simp only [shapeCast_shapeCast, shapeCast_self]

end Cert.KernelIdeal.RS

end
-- ==== Proof.Flow.lean ====
/- The steps of the body in the form its parts use them: each takes its resources one by one and leaves the rest of
   the program to run with what it gives back. -/
module

public import proofs.«01_k».proof.Proof.Steps

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A part of the kernel applied to the buffers and semaphores it runs on. -/
abbrev onBufs {α : Sort _}
    (f : (arg0 : Memref sig .tc .vmem S1024x1024 .f32) → arg0.IsWhole → (arg1 : Memref sig .tc .vmem S1024x4096 .f32) → arg1.IsWhole
      → (arg2 : Memref sig .tc .vmem S128x4096 .f32) → arg2.IsWhole → (arg3 : Memref sig .tc .vmem S2x4x128x4096 .f32) → arg3.IsWhole
      → (arg4 : Memref sig .tc .vmem S2x128x4096 .f32) → arg4.IsWhole → DmaSems sig S2x3x2 → DmaSems sig S2x3x2 → DmaSems sig S2 → DmaSems sig S2 → α) : α :=
  f xM (Memref.isWhole_whole _) yM (Memref.isWhole_whole _) oM (Memref.isWhole_whole _) commM (Memref.isWhole_whole _) cutM (Memref.isWhole_whole _)
    cc0_scratch2 cc0_scratch3 cc0_scratch4 cc0_scratch5

/-- What a transfer carries, at its source, -/
abbrev Src (c : Dev nD) (t : Xf) : sProp 𝕄 := at' c (srcM t) (val m ρ t c)
/-- and landed. -/
abbrev Dst (c : Dev nD) (t : Xf) : sProp 𝕄 := at' c (dstM t) (val m ρ t (bn (lk t) c))
/-- The piece a transfer writes, at the far end. -/
abbrev To (c : Dev nD) (t : Xf) : sProp 𝕄 := anyAt (nb (lk t) c) (dstM t)
/-- What a signal needs: the ticket at the neighbour's barrier and the pieces handed over. -/
abbrev Sig (c : Dev nD) (d : Fin 3) : sProp 𝕄 := iprop(dutyTok ER (barCell (bn d c)) 0 d ∗ barPay (bn d c) d)
/-- A transfer's two semaphores on device `c`, closed at zero. -/
abbrev Zs (c : Dev nD) (t : Xf) : sProp 𝕄 := Zero c (some (false, t))
abbrev Zr (c : Dev nD) (t : Xf) : sProp 𝕄 := Zero c (some (true, t))

section Flow

variable (c : Dev nD) {α : Type}

theorem run_ret {Q : α → sProp 𝕄} (a : α) : Q a ⊢ run (F := F) c (.ret a) Q := by
  unfold run
  rw [wp_ret]
  iintro H; imodintro; iexact H

theorem run_bind {Q : α → sProp 𝕄} {β : Type} (p : Prog (TpuEff nD τ sig (Elt F) Λ₀ .tc) β) (k : β → Prog (TpuEff nD τ sig (Elt F) Λ₀ .tc) α) :
    run c p (fun b => run c (k b) Q) ⊢ run c (p >>= k) Q := by
  unfold run
  rw [wp_bind]

theorem run_dev {Q : α → sProp 𝕄} {k : Dev nD → Prog (TpuEff nD τ sig (Elt F) Λ₀ .tc) α} : run c (k c) Q ⊢ run c (.op .deviceId k) Q := by
  unfold run
  rw [wp_deviceId]

theorem run_assume {Q : α → sProp 𝕄} {P : Prop} (h : P) {d : Decidable P} {k : PLift P → Prog (TpuEff nD τ sig (Elt F) Λ₀ .tc) α} :
    run c (k ⟨h⟩) Q ⊢ run c (.op (.assume P d) k) Q := by
  exact Entails.of_eq (wp_assume_of 𝒱₀ (c : Thread nD τ) none Set.univ h).symm

/-- Starting a transfer. -/
theorem go_enq {Q : α → sProp 𝕄} (K : Dev nD × Ck → ℕ) (t : Xf) (i : ℕ) (hi : dues.drop i = .inr t :: dues.drop (i + 1))
    {n : Dev nD} (hn : n = nb (lk t) c)
    {src : Memref sig .tc .vmem S64x4096 .f32} {dst : Memref sig (Dev.tc n : Thread nD τ).2.kind .vmem S64x4096 .f32}
    (hs : src = srcM t) (hd : dst = dstM t) {qs qr : DmaSem sig} (hqs : qs = sendQ t) (hqr : qr = recvQ t)
    {hsc : dst.view.ref.isScScratch = false} {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α} :
    Env m ρ K ⊢ iprop(Snd c t -∗ Src m ρ c t -∗ To c t -∗ Owes c i -∗ ((Fly c t ∗ Owes c (i + 1)) -∗ run c (k ⟨⟩) Q)
          -∗ run c (.op (.enqueueDma src (.remote (Dev.tc n : Thread nD τ) dst (.dma qs) hsc) (.dma qr) hsrc hdst hsem) k) Q) := by
  iintro #HE Hs Hv Ht HO
  iapply (wp_enq m ρ K c t i hi hn hs hd hqs hqr)
  isplitr; · iexact HE
  isplitl [Hs]; · iexact Hs
  isplitl [Hv]; · iexact Hv
  isplitl [Ht]; · iexact Ht
  iexact HO

/-- Waiting for a transfer of one's own to have left. -/
theorem go_sent {Q : α → sProp 𝕄} (K : Dev nD × Ck → ℕ) (t : Xf) (i : ℕ) (hlev : ∀ k ∈ dues.drop i, level (some (false, t)) < level (dueCk k))
    {q : DmaSem sig} (hq : q = sendQ t) {ma mb : Memref sig .tc .vmem S64x4096 .f32} (hm : mb.view.dmaCredit = N)
    {ha : ma.view.WordExact} {hb : mb.view.WordExact} {k : PUnit → Prog (TpuEff nD τ sig (Elt F) Λ₀ .tc) α} :
    Env m ρ K ⊢ iprop(Fly c t -∗ Owes c i -∗ ((Src m ρ c t ∗ Zs c t ∗ Owes c i) -∗ run c (k ⟨⟩) Q)
          -∗ run c (.op (.waitDma2 q ma mb ha hb) k) Q) := by
  iintro #HE Hs HO
  iapply (wp_sent m ρ K c t i hlev hq hm)
  isplitr; · iexact HE
  isplitl [Hs]; · iexact Hs
  iexact HO

/-- Waiting for a neighbour's transfer to have landed. -/
theorem go_landed {Q : α → sProp 𝕄} (K : Dev nD × Ck → ℕ) (t : Xf) (i : ℕ) (hlev : ∀ k ∈ dues.drop i, level (some (true, t)) < level (dueCk k))
    {q : DmaSem sig} (hq : q = recvQ t) {ma mb : Memref sig .tc .vmem S64x4096 .f32} (hm : mb.view.dmaCredit = N)
    {ha : ma.view.WordExact} {hb : mb.view.WordExact} {k : PUnit → Prog (TpuEff nD τ sig (Elt F) Λ₀ .tc) α} :
    Env m ρ K ⊢ iprop(Rcv c t -∗ Owes c i -∗ ((Dst m ρ c t ∗ Zr c t ∗ Owes c i) -∗ run c (k ⟨⟩) Q)
          -∗ run c (.op (.waitDma2 q ma mb ha hb) k) Q) := by
  iintro #HE Hs HO
  iapply (wp_landed m ρ K c t i hlev hq hm)
  isplitr; · iexact HE
  isplitl [Hs]; · iexact Hs
  iexact HO

/-- A signal to a neighbour's barrier. -/
theorem go_sig {Q : α → sProp 𝕄} (K : Dev nD × Ck → ℕ) (d : Fin 3) (i : ℕ) (hi : dues.drop i = .inl d :: dues.drop (i + 1)) {n : Dev nD} (hn : n = bn d c)
    {k : PUnit → Prog (TpuEff nD τ sig (Elt F) Λ₀ .tc) α} :
    Env m ρ K ⊢ iprop(Sig c d -∗ Owes c i -∗ (Owes c (i + 1) -∗ run c (k ⟨⟩) Q)
        -∗ run c (.op (.semSignal (Dev.tc n : Thread nD τ) barS (1#32 : BitVec 32).toInt) k) Q) := by
  iintro #HE ⟨Ht, Hp⟩ HO
  iapply (wp_sig m ρ K c d i hi hn)
  isplitr; · iexact HE
  isplitl [Ht]; · iexact Ht
  isplitl [Hp]; · iexact Hp
  iexact HO

/-- A landed piece read and rewritten. -/
theorem go_add {Q : α → sProp 𝕄} (l : Fin 2) (s : Fin 4) (j : Fin 2) (X Y : FVec F S64x4096 .f32) (Px Py : sProp 𝕄)
    (hPx : Px = at' c (cm l s j) X) (hPy : Py = at' c (cm l s j) Y) {p : ((cmR l s j).shape.Idx → Elt F .f32) → ((cmR l s j).shape.Idx → Elt F .f32)}
    (hp : p (shapeCast S1x1x64x4096 X shapeCasts_S64x4096_S1x1x64x4096) = shapeCast S1x1x64x4096 Y shapeCasts_S64x4096_S1x1x64x4096)
    {hl hl' : commM.view.LoadsAt (cmR l s j).toLoadRect} {hx : (commM.access (cmR l s j)).Stores Finset.univ}
    {hm : (Finset.univ : Finset (cmR l s j).shape.Idx) = Finset.univ ∨ ∀ a, (cmR l s j).stride a = 1}
    {k : PUnit → Prog (TpuEff nD τ sig (Elt F) Λ₀ .tc) α} :
    Px ⊢ iprop((Py -∗ run c (k ⟨⟩) Q)
      -∗ run c (.op (.load commM (cmR l s j).toLoadRect hl) fun v => .op (.load commM (cmR l s j).toLoadRect hl') fun _ =>
          .op (.store commM (cmR l s j) (p v) Finset.univ hx hm) k) Q) := by
  subst hPx; subst hPy
  iintro H Hk
  iapply (wp_load_piece commM (cmR l s j) (fun _ => rfl) squeezes_S1x1x64x4096_S64x4096 c X shapeCasts_S64x4096_S1x1x64x4096) $$ H
  iintro H
  iapply (wp_load_piece commM (cmR l s j) (fun _ => rfl) squeezes_S1x1x64x4096_S64x4096 c X shapeCasts_S64x4096_S1x1x64x4096) $$ H
  iintro H
  iapply (wp_store_piece commM (cmR l s j) (fun _ => rfl) squeezes_S1x1x64x4096_S64x4096 c X Y shapeCasts_S64x4096_S1x1x64x4096 hp) $$ H
  iexact Hk

/-- The same with the chord's landed piece added. -/
theorem go_add_cut {Q : α → sProp 𝕄} (l : Fin 2) (s : Fin 4) (j : Fin 2) (X Y Z : FVec F S64x4096 .f32) (Px Py Pz : sProp 𝕄)
    (hPx : Px = at' c (cm l s j) X) (hPy : Py = at' c (cm l s j) Y) (hPz : Pz = at' c (sc 1 j) Z)
    {p : ((cmR l s j).shape.Idx → Elt F .f32) → ((scR 1 j).shape.Idx → Elt F .f32) → ((cmR l s j).shape.Idx → Elt F .f32)}
    (h : S64x4096.ShapeCasts S1x64x4096)
    (hp : p (shapeCast S1x1x64x4096 X shapeCasts_S64x4096_S1x1x64x4096) (shapeCast S1x64x4096 Z h) = shapeCast S1x1x64x4096 Y shapeCasts_S64x4096_S1x1x64x4096)
    {hl hl' : commM.view.LoadsAt (cmR l s j).toLoadRect} {hc : cutM.view.LoadsAt (scR 1 j).toLoadRect}
    {hx : (commM.access (cmR l s j)).Stores Finset.univ}
    {hm : (Finset.univ : Finset (cmR l s j).shape.Idx) = Finset.univ ∨ ∀ a, (cmR l s j).stride a = 1}
    {k : PUnit → Prog (TpuEff nD τ sig (Elt F) Λ₀ .tc) α} :
    Px ⊢ iprop(Pz -∗ ((Py ∗ Pz) -∗ run c (k ⟨⟩) Q)
      -∗ run c (.op (.load commM (cmR l s j).toLoadRect hl) fun v => .op (.load cutM (scR 1 j).toLoadRect hc) fun v' =>
          .op (.load commM (cmR l s j).toLoadRect hl') fun _ => .op (.store commM (cmR l s j) (p v v') Finset.univ hx hm) k) Q) := by
  subst hPx; subst hPy; subst hPz
  iintro H HZ Hk
  iapply (wp_load_piece commM (cmR l s j) (fun _ => rfl) squeezes_S1x1x64x4096_S64x4096 c X shapeCasts_S64x4096_S1x1x64x4096) $$ H
  iintro H
  iapply (wp_load_piece cutM (scR 1 j) (fun _ => rfl) squeezes_S1x64x4096_S64x4096 c Z h) $$ HZ
  iintro HZ
  iapply (wp_load_piece commM (cmR l s j) (fun _ => rfl) squeezes_S1x1x64x4096_S64x4096 c X shapeCasts_S64x4096_S1x1x64x4096) $$ H
  iintro H
  iapply (wp_store_piece commM (cmR l s j) (fun _ => rfl) squeezes_S1x1x64x4096_S64x4096 c X Y shapeCasts_S64x4096_S1x1x64x4096 hp) $$ H
  iintro H
  iapply Hk
  isplitl [H]; · iexact H
  iexact HZ

end Flow

/-! ## The branches on the ring position's parity -/

/-- One of two values, by a flag. -/
abbrev chosen {β : Type} (b : Bool) (x y : β) : β := bif b then y else x

section Branches

variable {α : Type} (c : Dev nD)

/-- Under a condition: load a piece, change it, put it back. -/
theorem go_if_add {Q : α → sProp 𝕄} (l : Fin 2) (s : Fin 4) (j : Fin 2) (X Y : FVec F S64x4096 .f32) (Px : sProp 𝕄)
    (hPx : Px = at' c (cm l s j) X) {p : ((cmR l s j).shape.Idx → Elt F .f32) → ((cmR l s j).shape.Idx → Elt F .f32)}
    (b : Bool) {v : BitVec 1} (hv : v = 1#1 ↔ b = true)
    (hp : p (shapeCast S1x1x64x4096 X shapeCasts_S64x4096_S1x1x64x4096) = shapeCast S1x1x64x4096 Y shapeCasts_S64x4096_S1x1x64x4096)
    {hl hl' : commM.view.LoadsAt (cmR l s j).toLoadRect} {hx : (commM.access (cmR l s j)).Stores Finset.univ}
    {hm : (Finset.univ : Finset (cmR l s j).shape.Idx) = Finset.univ ∨ ∀ a, (cmR l s j).stride a = 1}
    {k : PUnit → Prog (TpuEff nD τ sig (Elt F) Λ₀ .tc) α} :
    Px ⊢ iprop((at' c (cm l s j) (chosen b X Y) -∗ run c (k ⟨⟩) Q)
      -∗ run c (if v = 1#1 then .op (.load commM (cmR l s j).toLoadRect hl) fun v => .op (.load commM (cmR l s j).toLoadRect hl') fun _ =>
          .op (.store commM (cmR l s j) (p v) Finset.univ hx hm) k else k ⟨⟩) Q) := by
  subst hPx
  cases b
  · rw [if_neg (fun h => Bool.noConfusion (hv.1 h))]
    iintro H Hk
    iapply Hk
    iexact H
  · rw [if_pos (hv.2 rfl)]
    iintro H Hk
    iapply (go_add c l s j X Y (at' c (cm l s j) X) (at' c (cm l s j) Y) rfl rfl hp) $$ H
    iintro H
    iapply Hk
    iexact H

/-- The same with the chord's landed piece added. -/
theorem go_if_cut {Q : α → sProp 𝕄} (l : Fin 2) (s : Fin 4) (j : Fin 2) (X Y Z : FVec F S64x4096 .f32) (Px Pz : sProp 𝕄)
    (hPx : Px = at' c (cm l s j) X) (hPz : Pz = at' c (sc 1 j) Z)
    {p : ((cmR l s j).shape.Idx → Elt F .f32) → ((scR 1 j).shape.Idx → Elt F .f32) → ((cmR l s j).shape.Idx → Elt F .f32)}
    (b : Bool) {v : BitVec 1} (hv : v = 1#1 ↔ b = true) (h : S64x4096.ShapeCasts S1x64x4096)
    (hp : p (shapeCast S1x1x64x4096 X shapeCasts_S64x4096_S1x1x64x4096) (shapeCast S1x64x4096 Z h) = shapeCast S1x1x64x4096 Y shapeCasts_S64x4096_S1x1x64x4096)
    {hl hl' : commM.view.LoadsAt (cmR l s j).toLoadRect} {hc : cutM.view.LoadsAt (scR 1 j).toLoadRect}
    {hx : (commM.access (cmR l s j)).Stores Finset.univ}
    {hm : (Finset.univ : Finset (cmR l s j).shape.Idx) = Finset.univ ∨ ∀ a, (cmR l s j).stride a = 1}
    {k : PUnit → Prog (TpuEff nD τ sig (Elt F) Λ₀ .tc) α} :
    Px ⊢ iprop(Pz -∗ ((at' c (cm l s j) (chosen b X Y) ∗ Pz) -∗ run c (k ⟨⟩) Q)
      -∗ run c (if v = 1#1 then .op (.load commM (cmR l s j).toLoadRect hl) fun v => .op (.load cutM (scR 1 j).toLoadRect hc) fun v' =>
          .op (.load commM (cmR l s j).toLoadRect hl') fun _ => .op (.store commM (cmR l s j) (p v v') Finset.univ hx hm) k
        else k ⟨⟩) Q) := by
  subst hPx; subst hPz
  cases b
  · rw [if_neg (fun h => Bool.noConfusion (hv.1 h))]
    iintro H HZ Hk
    iapply Hk
    isplitl [H]; · iexact H
    iexact HZ
  · rw [if_pos (hv.2 rfl)]
    iintro H HZ Hk
    iapply (go_add_cut c l s j X Y Z (at' c (cm l s j) X) (at' c (cm l s j) Y) (at' c (sc 1 j) Z) rfl rfl rfl h hp) $$ H HZ
    iintro H
    iapply Hk
    iexact H

/-- A landed piece is read. -/
theorem go_load {Q : α → sProp 𝕄} (l : Fin 2) (s : Fin 4) (j : Fin 2) (X : FVec F S64x4096 .f32) (Px : sProp 𝕄) (hPx : Px = at' c (cm l s j) X)
    {hl : commM.view.LoadsAt (cmR l s j).toLoadRect} {k : ((cmR l s j).shape.Idx → Elt F .f32) → Prog (TpuEff nD τ sig (Elt F) Λ₀ .tc) α} :
    Px ⊢ iprop((Px -∗ run c (k (shapeCast S1x1x64x4096 X shapeCasts_S64x4096_S1x1x64x4096)) Q)
      -∗ run c (.op (.load commM (cmR l s j).toLoadRect hl) k) Q) := by
  subst hPx
  exact wp_load_piece commM (cmR l s j) (fun _ => rfl) squeezes_S1x1x64x4096_S64x4096 c X shapeCasts_S64x4096_S1x1x64x4096

end Branches

/-- Adding a block's half and the chord's half onto a piece. -/
theorem acc_cut (X D Z : FVec F S64x4096 .f32) (h : S64x4096.ShapeCasts S1x64x4096) :
    shapeCast S1x1x64x4096 (addf (addf (shapeCast S64x4096 (shapeCast S1x1x64x4096 X shapeCasts_S64x4096_S1x1x64x4096) shapeCasts_S1x1x64x4096_S64x4096) D)
        (shapeCast S64x4096 (shapeCast S1x64x4096 Z h) shapeCasts_S1x64x4096_S64x4096)) shapeCasts_S64x4096_S1x1x64x4096
      = shapeCast S1x1x64x4096 (addf (addf X D) Z) shapeCasts_S64x4096_S1x1x64x4096 := by
  rw [of_piece, of_cut]

/-- A half of the result: both landed pieces and this device's own block. -/
theorem out_piece (X Y D : FVec F S64x4096 .f32) :
    addf (addf (shapeCast S64x4096 (shapeCast S1x1x64x4096 X shapeCasts_S64x4096_S1x1x64x4096) shapeCasts_S1x1x64x4096_S64x4096)
        (shapeCast S64x4096 (shapeCast S1x1x64x4096 Y shapeCasts_S64x4096_S1x1x64x4096) shapeCasts_S1x1x64x4096_S64x4096)) D
      = addf (addf X Y) D := by
  rw [of_piece, of_piece]

/-- The parity bit of a device decides the three kinds of branch. -/
theorem branch_even (c : Dev nD) : (Scalar.cmpi .ne (Scalar.extui (evenBit c)) 0#32 = 1#1) ↔ even c = true := by
  revert c; decide +kernel
theorem branch_odd (c : Dev nD) : (Scalar.cmpi .ne (Scalar.extui (Scalar.xori (evenBit c) 1#1)) 0#32 = 1#1) ↔ (!even c) = true := by
  revert c; decide +kernel
theorem branch_not_odd (c : Dev nD) :
    (Scalar.cmpi .ne (Scalar.extui (Scalar.xori (Scalar.xori (evenBit c) 1#1) 1#1)) 0#32 = 1#1) ↔ even c = true := by
  revert c; decide +kernel

end Cert.KernelIdeal.RS
end
-- ==== Proof.BodyA.lean ====
/- The body's first eleven parts: the words of the neighbours, the barrier, the first sends and the operand blocks. -/
module

public import proofs.«01_k».proof.Proof.Flow

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The first slots, rewritten with their blocks, are what the first transfers carry. -/
theorem slot_right (c : Dev nD) :
    (owns (c : Thread nD τ) (commM.slice (slotR 0) (fun _ => rfl)) fullShare (k0_pay10 (xcols m ρ c (tgt c 3)) (ystg m ρ c)) : sProp 𝕄)
      ⊢ iprop(Src m ρ c (.inl (0, 0, 0)) ∗ Src m ρ c (.inl (0, 0, 1))) := slot_halves 0 c (part m ρ c (tgt c 3))
theorem slot_left (c : Dev nD) :
    (owns (c : Thread nD τ) (commM.slice (slotR 1) (fun _ => rfl)) fullShare (k0_pay12 (xcols m ρ c (tgt c 5)) (ystg m ρ c)) : sProp 𝕄)
      ⊢ iprop(Src m ρ c (.inl (1, 0, 0)) ∗ Src m ρ c (.inl (1, 0, 1))) := slot_halves 1 c (part m ρ c (tgt c 5))
theorem slot_cut (c : Dev nD) :
    (owns (c : Thread nD τ) (cutM.slice cutR (fun _ => rfl)) fullShare (k0_pay14 (xcols m ρ c (tgt c 4)) (ystg m ρ c)) : sProp 𝕄)
      ⊢ iprop(Src m ρ c (.inr 0) ∗ Src m ρ c (.inr 1)) := cut_halves c (part m ρ c (tgt c 4))

/-- The words of the block three places back on the ring. -/
abbrev ring8 : BitVec 32 := Scalar.select (Scalar.cmpi .eq 8#32 0#32) 1#32 8#32
abbrev back3 (c : Dev nD) : BitVec 32 := Scalar.remsi (Scalar.subi (wd (ringOf c)) 3#32) ring8
abbrev back3neg (c : Dev nD) : BitVec 1 :=
  Scalar.andi (Scalar.xori (Scalar.cmpi .slt (back3 c) 0#32) (Scalar.cmpi .slt ring8 0#32)) (Scalar.cmpi .ne (back3 c) 0#32)

section Parts

variable (K : Dev nD × Ck → ℕ) (c : Dev nD)

/-- The device's position and its right neighbour. -/
theorem part1 {Kt : (Σ' (d0 : Dev nD) (v2 : BitVec 32) (v3 : IVec S1x8 32) (v8 : IVec S1x8 32) (v16 : BitVec 32) (v35 : BitVec 32) (k0_hw2 : k0_chk2 v35) (v36 : BitVec 32), BitVec 32) → sProp 𝕄} :
    Kt ⟨c, Scalar.remsi (Scalar.divsi (Dev.word c) 1#32) 8#32, cols, k0_pay2, wd (ringOf c), wd (right c), chk_right _, Scalar.subi (wd (ringOf c)) 1#32,
        Scalar.select (Scalar.cmpi .eq 8#32 0#32) 1#32 8#32⟩
      ⊢ run (F := F) c (onBufs k0_part1) Kt := by
  unfold onBufs
  rw [k0_part1_eq_skeleton]
  unfold k0_part1_skel
  have hchk : k0_chk2 (extractAt ![0, 0, 0] (k0_pay4 c) inpos_S1x1x1_p0_0_0) := right_word c ▸ chk_right _
  have key : ∀ (a b : BitVec 32) (h : k0_chk2 b), a = wd (ringOf c) → b = wd (right c) →
      Kt ⟨c, Scalar.remsi (Scalar.divsi (Dev.word c) 1#32) 8#32, cols, k0_pay2, wd (ringOf c), wd (right c), chk_right _, Scalar.subi (wd (ringOf c)) 1#32,
        Scalar.select (Scalar.cmpi .eq 8#32 0#32) 1#32 8#32⟩
        ⊢ Kt ⟨c, Scalar.remsi (Scalar.divsi (Dev.word c) 1#32) 8#32, cols, k0_pay2, a, b, h, Scalar.subi a 1#32, Scalar.select (Scalar.cmpi .eq 8#32 0#32) 1#32 8#32⟩ := by
    rintro a b h rfl rfl; exact .rfl
  simp only [Prog.lift, Prog.bind_op, Prog.bind_ret, Prog.pure_eq_ret]
  iintro H
  iapply (run_dev c)
  iapply (run_assume c hchk)
  iapply (run_ret c)
  iapply (key _ _ _ (pos_word c) (right_word c))
  iexact H

/-- Its left neighbour and its parity. -/
theorem part2 {Kt : (Σ' (v54 : BitVec 32) (k0_hw1 : k0_chk1 v54) (v65 : BitVec 1), IVec S1x8 1) → sProp 𝕄} :
    Kt ⟨wd (left c), chk_left _, evenBit c, k0_pay6 cols (wd (ringOf c))⟩
      ⊢ run (F := F) c (onBufs k0_part2 cols k0_pay2 (wd (ringOf c)) (Scalar.subi (wd (ringOf c)) 1#32) (Scalar.select (Scalar.cmpi .eq 8#32 0#32) 1#32 8#32)) Kt := by
  unfold onBufs
  rw [k0_part2_eq_skeleton]
  unfold k0_part2_skel
  have hchk : k0_chk1 (extractAt ![0, 0, 0] (k0_pay5 cols k0_pay2 (Scalar.subi (wd (ringOf c)) 1#32) (Scalar.select (Scalar.cmpi .eq 8#32 0#32) 1#32 8#32)) inpos_S1x1x1_p0_0_0) :=
    left_word c ▸ chk_left _
  have key : ∀ (a : BitVec 32) (h : k0_chk1 a) (b : BitVec 1), a = wd (left c) → b = evenBit c →
      Kt ⟨wd (left c), chk_left _, evenBit c, k0_pay6 cols (wd (ringOf c))⟩ ⊢ Kt ⟨a, h, b, k0_pay6 cols (wd (ringOf c))⟩ := by
    rintro a h b rfl rfl; exact .rfl
  simp only [Prog.lift, Prog.bind_op, Prog.bind_ret, Prog.pure_eq_ret]
  iintro H
  iapply (run_assume c hchk)
  iapply (run_ret c)
  iapply (key _ _ _ (left_word c) (even_word c))
  iexact H

/-- Its partner across the chord, and the three signals. -/
theorem part3 {Kt : (Σ' (v84 : BitVec 32) (v103 : BitVec 32) (k0_hw3 : k0_chk3 (wd (ringOf c)) v84 v103) (v104 : BitVec 32) (v105 : Sems sig S_) (v112 : BitVec 32), BitVec 32) → sProp 𝕄} :
    iprop(Env m ρ K ∗ Sig c 0 ∗ Sig c 1 ∗ Sig c 2 ∗ Owes c 0)
      ⊢ iprop((Owes c 3 -∗ Kt ⟨wd (tgt c 3), wd (tgt c 5), chk_partner c, Scalar.select (evenBit c) (wd (tgt c 3)) (wd (tgt c 5)), SemArray.scalar (sig.barrier 0 rfl),
            Scalar.addi (wd (ringOf c)) 3#32, 8#32⟩)
        -∗ run c (onBufs k0_part3 cols k0_pay2 (wd (ringOf c)) (wd (right c)) (chk_right _) (wd (left c)) (chk_left _) (evenBit c) (k0_pay6 cols (wd (ringOf c)))) Kt) := by
  unfold onBufs
  rw [k0_part3_eq_skeleton]
  unfold k0_part3_skel
  have hchk : k0_chk3 (wd (ringOf c)) (extractAt ![0, 0, 0] (k0_pay7 k0_pay2 (k0_pay6 cols (wd (ringOf c)))) inpos_S1x1x1_p0_0_0)
      (extractAt ![0, 0, 0] (k0_pay8 cols k0_pay2 (wd (ringOf c))) inpos_S1x1x1_p0_0_0) := by
    rw [three_word c, five_word c]; exact chk_partner c
  have key : ∀ (a b : BitVec 32) (h : k0_chk3 (wd (ringOf c)) a b), a = wd (tgt c 3) → b = wd (tgt c 5) →
      Kt ⟨wd (tgt c 3), wd (tgt c 5), chk_partner c, Scalar.select (evenBit c) (wd (tgt c 3)) (wd (tgt c 5)), SemArray.scalar (sig.barrier 0 rfl),
            Scalar.addi (wd (ringOf c)) 3#32, 8#32⟩
        ⊢ Kt ⟨a, b, h, Scalar.select (evenBit c) a b, SemArray.scalar (sig.barrier 0 rfl), Scalar.addi (wd (ringOf c)) 3#32, 8#32⟩ := by
    rintro a b h rfl rfl; exact .rfl
  have hdev := (congr (congrArg (k0_dev3 (wd (ringOf c))) (three_word c)) (five_word c)).trans (devs_partner c).1
  simp only [semSignalWord, Prog.lift, Prog.bind_op, Prog.bind_ret, Prog.pure_eq_ret]
  iintro ⟨#HE, H0, H1, H2, HO⟩ Hk
  iapply (run_assume c hchk)
  iapply (go_sig m ρ c K 0 0 rfl (hn := Fin.ext (devs_left (left c)).1)) $$ HE H0 HO
  iintro HO
  iapply (go_sig m ρ c K 1 1 rfl (hn := Fin.ext (devs_right (right c)).1)) $$ HE H1 HO
  iintro HO
  iapply (go_sig m ρ c K 2 2 rfl (hn := Fin.ext hdev)) $$ HE H2 HO
  iintro HO
  iapply (run_ret c)
  iapply (key _ _ _ (three_word c) (five_word c))
  iapply Hk
  iexact HO

/-- The first block for the right, and the wait for the three neighbours. -/
theorem part4 {Kt : BitVec 32 → sProp 𝕄} :
    iprop(Env m ρ K ∗ xPts m ρ c ∗ yPts m ρ c ∗ someAt commM (slotR 0) c ∗ (atPos ER (barCell c) 0 ∅ 0 ∗ cred (tallyAt (barCell c) () 3)) ∗ Owes c 3)
      ⊢ iprop(((xPts m ρ c ∗ yPts m ρ c ∗ Src m ρ c (.inl (0, 0, 0)) ∗ Src m ρ c (.inl (0, 0, 1))
            ∗ land (nb 0 c) 0 ∗ land (nb 1 c) 1 ∗ landC (nb 2 c) ∗ Zero c none ∗ Owes c 3) -∗ Kt 1#32)
        -∗ run c (onBufs k0_part4 cols k0_pay2 (SemArray.scalar (sig.barrier 0 rfl)) (Scalar.addi (wd (ringOf c)) 3#32) 8#32) Kt) := by
  unfold onBufs
  rw [k0_part4_eq_skeleton]
  unfold k0_part4_skel
  have hw := block3_word c
  have hchk : k0_chk4 (extractAt ![0, 0, 0] (k0_pay9 cols k0_pay2 (Scalar.addi (wd (ringOf c)) 3#32) 8#32) inpos_S1x1x1_p0_0_0) := hw ▸ chk4 _
  have hoff := (congrArg k0_off1 hw).trans (offs _).1
  simp only [semWaitWord, Prog.lift, Prog.bind_op, Prog.bind_ret, Prog.pure_eq_ret]
  iintro ⟨#HE, Hx, Hy, Hs, Hb, HO⟩ Hk
  iapply (run_assume c hchk)
  iapply (wp_load_x m ρ c (tgt c 3) hoff) $$ Hx
  iintro Hx
  iapply (wp_load_y m ρ c) $$ Hy
  iintro Hy
  iapply (wp_load_some commM (slotR 0) c) $$ Hs
  iintro Hs
  iapply (wp_store_some commM (slotR 0) (fun _ => rfl) c) $$ Hs
  iintro Hs
  ihave H := (slot_right m ρ c) $$ Hs
  icases H with ⟨H0, H1⟩
  iapply (wp_bar m ρ K c 3 (by decide)) $$ [Hb HO]
  · isplitr; · iexact HE
    isplitl [Hb]; · iexact Hb
    iexact HO
  iintro ⟨L0, L1, L2, Hz, HO⟩
  iapply (run_ret c)
  iapply Hk
  isplitl [Hx]; · iexact Hx
  isplitl [Hy]; · iexact Hy
  isplitl [H0]; · iexact H0
  isplitl [H1]; · iexact H1
  isplitl [L0]; · iexact L0
  isplitl [L1]; · iexact L1
  isplitl [L2]; · iexact L2
  isplitl [Hz]; · iexact Hz
  iexact HO

/-- The first block leaves for the right. -/
theorem part5 {Kt : (Σ' (v164 : BitVec 32) (v169 : BitVec 1), BitVec 32) → sProp 𝕄} (w : BitVec 32) :
    iprop(Env m ρ K ∗ (Snd c (.inl (0, 0, 0)) ∗ Src m ρ c (.inl (0, 0, 0)) ∗ To c (.inl (0, 0, 0)))
        ∗ (Snd c (.inl (0, 0, 1)) ∗ Src m ρ c (.inl (0, 0, 1)) ∗ To c (.inl (0, 0, 1))) ∗ Owes c 3)
      ⊢ iprop(((Fly c (.inl (0, 0, 0)) ∗ Fly c (.inl (0, 0, 1)) ∗ Owes c 5) -∗
          Kt ⟨back3 c, back3neg c, Scalar.addi (back3 c) ring8⟩)
        -∗ run c (onBufs k0_part5 (wd (ringOf c)) (wd (right c)) (chk_right _) w) Kt) := by
  unfold onBufs
  rw [k0_part5_eq_skeleton]
  unfold k0_part5_skel
  simp only [Prog.lift, Prog.bind_op, Prog.bind_ret, Prog.pure_eq_ret]
  iintro ⟨#HE, ⟨Hs, Hv, Ht⟩, ⟨Hs', Hv', Ht'⟩, HO⟩ Hk
  iapply (go_enq m ρ c K (.inl (0, 0, 0)) 3 rfl (hn := Fin.ext (devs_right (right c)).2.1) (hs := rfl) (hd := rfl) (hqs := rfl) (hqr := rfl)) $$ HE Hs Hv Ht HO
  iintro ⟨Hf, HO⟩
  iapply (go_enq m ρ c K (.inl (0, 0, 1)) 4 rfl (hn := Fin.ext (devs_right (right c)).2.2.1) (hs := rfl) (hd := rfl) (hqs := rfl) (hqr := rfl)) $$ HE Hs' Hv' Ht' HO
  iintro ⟨Hf', HO⟩
  iapply (run_ret c)
  iapply Hk
  isplitl [Hf]; · iexact Hf
  isplitl [Hf']; · iexact Hf'
  iexact HO

/-- The first block for the left, and its upper half leaves. -/
theorem part6 {Kt : PUnit → sProp 𝕄} :
    iprop(Env m ρ K ∗ xPts m ρ c ∗ yPts m ρ c ∗ someAt commM (slotR 1) c ∗ (Snd c (.inl (1, 0, 0)) ∗ To c (.inl (1, 0, 0))) ∗ Owes c 5)
      ⊢ iprop(((xPts m ρ c ∗ yPts m ρ c ∗ Src m ρ c (.inl (1, 0, 1)) ∗ Fly c (.inl (1, 0, 0)) ∗ Owes c 6) -∗ Kt ⟨⟩)
        -∗ run c (onBufs k0_part6 cols k0_pay2 (wd (left c)) (chk_left _) (back3 c) (back3neg c) (Scalar.addi (back3 c) ring8)) Kt) := by
  unfold onBufs
  rw [k0_part6_eq_skeleton]
  unfold k0_part6_skel
  have hw : extractAt ![0, 0, 0] (k0_pay11 cols k0_pay2 (back3 c) (back3neg c) (Scalar.addi (back3 c) ring8)) inpos_S1x1x1_p0_0_0 = wd (tgt c 5) := block5_word c
  have hchk : k0_chk5 (extractAt ![0, 0, 0] (k0_pay11 cols k0_pay2 (back3 c) (back3neg c) (Scalar.addi (back3 c) ring8)) inpos_S1x1x1_p0_0_0) := hw ▸ chk5 _
  have hoff := (congrArg k0_off2 hw).trans (offs _).2.1
  simp only [Prog.lift, Prog.bind_op, Prog.bind_ret, Prog.pure_eq_ret]
  iintro ⟨#HE, Hx, Hy, Hs, ⟨Hd, Ht⟩, HO⟩ Hk
  iapply (run_assume c hchk)
  iapply (wp_load_x m ρ c (tgt c 5) hoff) $$ Hx
  iintro Hx
  iapply (wp_load_y m ρ c) $$ Hy
  iintro Hy
  iapply (wp_load_some commM (slotR 1) c) $$ Hs
  iintro Hs
  iapply (wp_store_some commM (slotR 1) (fun _ => rfl) c) $$ Hs
  iintro Hs
  ihave H := (slot_left m ρ c) $$ Hs
  icases H with ⟨H0, H1⟩
  iapply (go_enq m ρ c K (.inl (1, 0, 0)) 5 rfl (hn := Fin.ext (devs_left (left c)).2.1) (hs := rfl) (hd := rfl) (hqs := rfl) (hqr := rfl)) $$ HE Hd H0 Ht HO
  iintro ⟨Hf, HO⟩
  iapply (run_ret c)
  iapply Hk
  isplitl [Hx]; · iexact Hx
  isplitl [Hy]; · iexact Hy
  isplitl [H1]; · iexact H1
  isplitl [Hf]; · iexact Hf
  iexact HO

/-- Its lower half leaves; the columns for the chord. -/
theorem part7 {Kt : Vec F S1024x128 .f32 → sProp 𝕄} :
    iprop(Env m ρ K ∗ xPts m ρ c ∗ (Snd c (.inl (1, 0, 1)) ∗ Src m ρ c (.inl (1, 0, 1)) ∗ To c (.inl (1, 0, 1))) ∗ Owes c 6)
      ⊢ iprop(((xPts m ρ c ∗ Fly c (.inl (1, 0, 1)) ∗ Owes c 7) -∗ Kt (xcols m ρ c (tgt c 4)))
        -∗ run c (onBufs k0_part7 cols k0_pay2 (wd (ringOf c)) (wd (left c)) (chk_left _)) Kt) := by
  unfold onBufs
  rw [k0_part7_eq_skeleton]
  unfold k0_part7_skel
  have hw := block4_word c
  have hchk : k0_chk6 (extractAt ![0, 0, 0] (k0_pay13 cols k0_pay2 (wd (ringOf c))) inpos_S1x1x1_p0_0_0) := hw ▸ chk6 _
  have hoff := (congrArg k0_off3 hw).trans (offs _).2.2.1
  simp only [Prog.lift, Prog.bind_op, Prog.bind_ret, Prog.pure_eq_ret]
  iintro ⟨#HE, Hx, ⟨Hd, Hv, Ht⟩, HO⟩ Hk
  iapply (go_enq m ρ c K (.inl (1, 0, 1)) 6 rfl (hn := Fin.ext (devs_left (left c)).2.2.1) (hs := rfl) (hd := rfl) (hqs := rfl) (hqr := rfl)) $$ HE Hd Hv Ht HO
  iintro ⟨Hf, HO⟩
  iapply (run_assume c hchk)
  iapply (wp_load_x m ρ c (tgt c 4) hoff) $$ Hx
  iintro Hx
  iapply (run_ret c)
  iapply Hk
  isplitl [Hx]; · iexact Hx
  isplitl [Hf]; · iexact Hf
  iexact HO

/-- The block for the chord, which leaves. -/
theorem part8 {Kt : (Σ' (v259 : BitVec 32) (c8_i32_185 : BitVec 32), BitVec 32) → sProp 𝕄} (w : BitVec 32) :
    iprop(Env m ρ K ∗ yPts m ρ c ∗ someAt cutM cutR c ∗ (Snd c (.inr 0) ∗ To c (.inr 0)) ∗ (Snd c (.inr 1) ∗ To c (.inr 1)) ∗ Owes c 7)
      ⊢ iprop(((yPts m ρ c ∗ Fly c (.inr 0) ∗ Fly c (.inr 1) ∗ Owes c 9) -∗ Kt ⟨Scalar.addi (wd (ringOf c)) 2#32, 8#32, 0#32⟩)
        -∗ run c (onBufs k0_part8 (wd (ringOf c)) (wd (tgt c 3)) (wd (tgt c 5)) (chk_partner c) w (xcols m ρ c (tgt c 4))) Kt) := by
  unfold onBufs
  rw [k0_part8_eq_skeleton]
  unfold k0_part8_skel
  simp only [Prog.lift, Prog.bind_op, Prog.bind_ret, Prog.pure_eq_ret]
  iintro ⟨#HE, Hy, Hs, ⟨Hd, Ht⟩, ⟨Hd', Ht'⟩, HO⟩ Hk
  iapply (wp_load_y m ρ c) $$ Hy
  iintro Hy
  iapply (wp_load_some cutM cutR c) $$ Hs
  iintro Hs
  iapply (wp_store_some cutM cutR (fun _ => rfl) c) $$ Hs
  iintro Hs
  ihave H := (slot_cut m ρ c) $$ Hs
  icases H with ⟨H0, H1⟩
  iapply (go_enq m ρ c K (.inr 0) 7 rfl (hn := Fin.ext (devs_partner c).2.1) (hs := rfl) (hd := rfl) (hqs := rfl) (hqr := rfl)) $$ HE Hd H0 Ht HO
  iintro ⟨Hf, HO⟩
  iapply (go_enq m ρ c K (.inr 1) 8 rfl (hn := Fin.ext (devs_partner c).2.2) (hs := rfl) (hd := rfl) (hqs := rfl) (hqr := rfl)) $$ HE Hd' H1 Ht' HO
  iintro ⟨Hf', HO⟩
  iapply (run_ret c)
  iapply Hk
  isplitl [Hy]; · iexact Hy
  isplitl [Hf]; · iexact Hf
  isplitl [Hf']; · iexact Hf'
  iexact HO

/-- The blocks the device adds on the way, and its own. -/
theorem part9 {Kt : (Σ' (v284 : FVec F S128x4096 .f32), IVec S1x8 32) → sProp 𝕄} :
    iprop(xPts m ρ c ∗ yPts m ρ c)
      ⊢ iprop(((xPts m ρ c ∗ yPts m ρ c) -∗ Kt ⟨k0_pay16 (xcols m ρ c (tgt c 2)) (ystg m ρ c), k0_pay17 cols k0_pay2 (wd (ringOf c))⟩)
        -∗ run c (onBufs k0_part9 cols k0_pay2 (wd (ringOf c)) (Scalar.addi (wd (ringOf c)) 2#32) 8#32 0#32) Kt) := by
  unfold onBufs
  rw [k0_part9_eq_skeleton]
  unfold k0_part9_skel
  have hw := block2_word c
  have hchk : k0_chk7 (extractAt ![0, 0, 0] (k0_pay15 cols k0_pay2 (Scalar.addi (wd (ringOf c)) 2#32) 8#32 0#32) inpos_S1x1x1_p0_0_0) := hw ▸ chk7 _
  have hoff := (congrArg k0_off4 hw).trans (offs _).2.2.2.1
  simp only [Prog.lift, Prog.bind_op, Prog.bind_ret, Prog.pure_eq_ret]
  iintro ⟨Hx, Hy⟩ Hk
  iapply (run_assume c hchk)
  iapply (wp_load_x m ρ c (tgt c 2) hoff) $$ Hx
  iintro Hx
  iapply (wp_load_y m ρ c) $$ Hy
  iintro Hy
  iapply (run_ret c)
  iapply Hk
  isplitl [Hx]; · iexact Hx
  iexact Hy

theorem part10 {Kt : (Σ' (v310 : FVec F S128x4096 .f32) (v336 : FVec F S128x4096 .f32), BitVec 32) → sProp 𝕄} :
    iprop(xPts m ρ c ∗ yPts m ρ c)
      ⊢ iprop(((xPts m ρ c ∗ yPts m ρ c) -∗ Kt ⟨k0_pay19 (xcols m ρ c (tgt c 6)) (ystg m ρ c), k0_pay21 (xcols m ρ c (tgt c 1)) (ystg m ρ c), 4294967295#32⟩)
        -∗ run c (onBufs k0_part10 cols k0_pay2 (wd (ringOf c)) (k0_pay17 cols k0_pay2 (wd (ringOf c)))) Kt) := by
  unfold onBufs
  rw [k0_part10_eq_skeleton]
  unfold k0_part10_skel
  have hw := block6_word c
  have hchk : k0_chk8 (extractAt ![0, 0, 0] (k0_pay18 (k0_pay17 cols k0_pay2 (wd (ringOf c)))) inpos_S1x1x1_p0_0_0) := hw ▸ chk8 _
  have hoff := (congrArg k0_off5 hw).trans (offs _).2.2.2.2.1
  have hw' := block1_word c
  have hchk' : k0_chk9 (extractAt ![0, 0, 0] (k0_pay20 cols k0_pay2 (wd (ringOf c))) inpos_S1x1x1_p0_0_0) := hw' ▸ chk9 _
  have hoff' := (congrArg k0_off6 hw').trans (offs _).2.2.2.2.2.1
  simp only [Prog.lift, Prog.bind_op, Prog.bind_ret, Prog.pure_eq_ret]
  iintro ⟨Hx, Hy⟩ Hk
  iapply (run_assume c hchk)
  iapply (wp_load_x m ρ c (tgt c 6) hoff) $$ Hx
  iintro Hx
  iapply (wp_load_y m ρ c) $$ Hy
  iintro Hy
  iapply (run_assume c hchk')
  iapply (wp_load_x m ρ c (tgt c 1) hoff') $$ Hx
  iintro Hx
  iapply (wp_load_y m ρ c) $$ Hy
  iintro Hy
  iapply (run_ret c)
  iapply Hk
  isplitl [Hx]; · iexact Hx
  iexact Hy

theorem part11 {Kt : (Σ' (v362 : FVec F S128x4096 .f32), FVec F S128x4096 .f32) → sProp 𝕄} (w : BitVec 32) :
    iprop(xPts m ρ c ∗ yPts m ρ c)
      ⊢ iprop(((xPts m ρ c ∗ yPts m ρ c) -∗ Kt ⟨k0_pay23 (xcols m ρ c (tgt c 7)) (ystg m ρ c), k0_pay24 (xcols m ρ c c) (ystg m ρ c)⟩)
        -∗ run c (onBufs k0_part11 c w cols k0_pay2 (wd (ringOf c)) 4294967295#32) Kt) := by
  unfold onBufs
  rw [k0_part11_eq_skeleton]
  unfold k0_part11_skel
  have hw := block7_word c
  have hchk : k0_chk10 (extractAt ![0, 0, 0] (k0_pay22 cols k0_pay2 (wd (ringOf c)) 4294967295#32) inpos_S1x1x1_p0_0_0) := hw ▸ chk10 _
  have hoff := (congrArg k0_off7 hw).trans (offs _).2.2.2.2.2.2.1
  simp only [Prog.lift, Prog.bind_op, Prog.bind_ret, Prog.pure_eq_ret]
  iintro ⟨Hx, Hy⟩ Hk
  iapply (run_assume c hchk)
  iapply (wp_load_x m ρ c (tgt c 7) hoff) $$ Hx
  iintro Hx
  iapply (wp_load_y m ρ c) $$ Hy
  iintro Hy
  iapply (wp_load_x m ρ c c (offs c).2.2.2.2.2.2.2) $$ Hx
  iintro Hx
  iapply (wp_load_y m ρ c) $$ Hy
  iintro Hy
  iapply (run_ret c)
  iapply Hk
  isplitl [Hx]; · iexact Hx
  iexact Hy

end Parts

end Cert.KernelIdeal.RS
end
-- ==== Proof.BodyB.lean ====
/- The middle of the body: the second step of each link, and the chord's arrivals. -/
module

public import proofs.«01_k».proof.Proof.Flow

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × Ck → ℕ) (c : Dev nD) (w : BitVec 32)

/-- The first link's first arrival, upper half, gains this device's block, -/
theorem part12 {Kt : PUnit → sProp 𝕄} (D : FVec F S128x4096 .f32) (hD : D = part m ρ c (tgt c 2)) :
    iprop(Env m ρ K ∗ Fly c (.inl (0, 0, 0)) ∗ Rcv c (.inl (0, 0, 0)) ∗ Owes c 9)
      ⊢ iprop(((Src m ρ c (.inl (0, 0, 0)) ∗ Zs c (.inl (0, 0, 0)) ∗ Zr c (.inl (0, 0, 0)) ∗ Src m ρ c (.inl (0, 1, 0)) ∗ Owes c 9) -∗ Kt ⟨⟩)
        -∗ run c (onBufs k0_part12 w D) Kt) := by
  subst hD
  unfold onBufs
  rw [k0_part12_eq_skeleton]
  unfold k0_part12_skel
  simp only [Prog.lift, Prog.bind_op, Prog.bind_ret, Prog.pure_eq_ret]
  iintro ⟨#HE, Hf, Hr, HO⟩ Hk
  iapply (go_sent m ρ c K (.inl (0, 0, 0)) 9 (by decide) (hq := rfl) (hm := credit_src (.inl (0, 0, 0)))) $$ HE Hf HO
  iintro ⟨Hs, Hz, HO⟩
  iapply (go_landed m ρ c K (.inl (0, 0, 0)) 9 (by decide) (hq := rfl) (hm := credit_dst (.inl (0, 0, 0)))) $$ HE Hr HO
  iintro ⟨Hd, Hz', HO⟩
  iapply (go_add c 0 1 0 (vR0 m ρ (left c) 0) (vR1 m ρ c 0) (Dst m ρ c (.inl (0, 0, 0))) (Src m ρ c (.inl (0, 1, 0))) rfl rfl
    (p := fun v => k0_pay25 (part m ρ c (tgt c 2)) v) (acc_piece (vR0 m ρ (left c) 0) (half 0 (part m ρ c (tgt c 2))))) $$ Hd
  iintro Hd
  iapply (run_ret c)
  iapply Hk
  isplitl [Hs]; · iexact Hs
  isplitl [Hz]; · iexact Hz
  isplitl [Hz']; · iexact Hz'
  isplitl [Hd]; · iexact Hd
  iexact HO

/-- and travels on to the right while the lower half of the first block is waited for. -/
theorem part13 {Kt : PUnit → sProp 𝕄} :
    iprop(Env m ρ K ∗ (Snd c (.inl (0, 1, 0)) ∗ Src m ρ c (.inl (0, 1, 0)) ∗ To c (.inl (0, 1, 0))) ∗ Fly c (.inl (0, 0, 1)) ∗ Owes c 9)
      ⊢ iprop(((Fly c (.inl (0, 1, 0)) ∗ Src m ρ c (.inl (0, 0, 1)) ∗ Zs c (.inl (0, 0, 1)) ∗ Owes c 10) -∗ Kt ⟨⟩)
        -∗ run c (onBufs k0_part13 (wd (right c)) (chk_right _)) Kt) := by
  unfold onBufs
  rw [k0_part13_eq_skeleton]
  unfold k0_part13_skel
  simp only [Prog.lift, Prog.bind_op, Prog.bind_ret, Prog.pure_eq_ret]
  iintro ⟨#HE, ⟨Hs, Hv, Ht⟩, Hf, HO⟩ Hk
  iapply (go_enq m ρ c K (.inl (0, 1, 0)) 9 rfl (hn := Fin.ext (devs_right (right c)).2.2.2.1) (hs := rfl) (hd := rfl) (hqs := rfl) (hqr := rfl)) $$ HE Hs Hv Ht HO
  iintro ⟨Hg, HO⟩
  iapply (go_sent m ρ c K (.inl (0, 0, 1)) 10 (by decide) (hq := rfl) (hm := credit_src (.inl (0, 0, 1)))) $$ HE Hf HO
  iintro ⟨Hs, Hz, HO⟩
  iapply (run_ret c)
  iapply Hk
  isplitl [Hg]; · iexact Hg
  isplitl [Hs]; · iexact Hs
  isplitl [Hz]; · iexact Hz
  iexact HO

/-- The lower half arrives, gains this device's block and travels on. -/
theorem part14 {Kt : PUnit → sProp 𝕄} (D : FVec F S128x4096 .f32) (hD : D = part m ρ c (tgt c 2)) :
    iprop(Env m ρ K ∗ Rcv c (.inl (0, 0, 1)) ∗ (Snd c (.inl (0, 1, 1)) ∗ To c (.inl (0, 1, 1))) ∗ Owes c 10)
      ⊢ iprop(((Zr c (.inl (0, 0, 1)) ∗ Fly c (.inl (0, 1, 1)) ∗ Owes c 11) -∗ Kt ⟨⟩)
        -∗ run c (onBufs k0_part14 (wd (right c)) (chk_right _) D) Kt) := by
  subst hD
  unfold onBufs
  rw [k0_part14_eq_skeleton]
  unfold k0_part14_skel
  simp only [Prog.lift, Prog.bind_op, Prog.bind_ret, Prog.pure_eq_ret]
  iintro ⟨#HE, Hr, ⟨Hs, Ht⟩, HO⟩ Hk
  iapply (go_landed m ρ c K (.inl (0, 0, 1)) 10 (by decide) (hq := rfl) (hm := credit_dst (.inl (0, 0, 1)))) $$ HE Hr HO
  iintro ⟨Hd, Hz, HO⟩
  iapply (go_add c 0 1 1 (vR0 m ρ (left c) 1) (vR1 m ρ c 1) (Dst m ρ c (.inl (0, 0, 1))) (Src m ρ c (.inl (0, 1, 1))) rfl rfl
    (p := fun v => k0_pay26 (part m ρ c (tgt c 2)) v) (acc_piece (vR0 m ρ (left c) 1) (half 1 (part m ρ c (tgt c 2))))) $$ Hd
  iintro Hv
  iapply (go_enq m ρ c K (.inl (0, 1, 1)) 10 rfl (hn := Fin.ext (devs_right (right c)).2.2.2.2.1) (hs := rfl) (hd := rfl) (hqs := rfl) (hqr := rfl)) $$ HE Hs Hv Ht HO
  iintro ⟨Hg, HO⟩
  iapply (run_ret c)
  iapply Hk
  isplitl [Hz]; · iexact Hz
  isplitl [Hg]; · iexact Hg
  iexact HO

/-- The second link's first arrival, upper half, gains this device's block, -/
theorem part15 {Kt : PUnit → sProp 𝕄} (D : FVec F S128x4096 .f32) (hD : D = part m ρ c (tgt c 6)) :
    iprop(Env m ρ K ∗ Fly c (.inl (1, 0, 0)) ∗ Rcv c (.inl (1, 0, 0)) ∗ Owes c 11)
      ⊢ iprop(((Src m ρ c (.inl (1, 0, 0)) ∗ Zs c (.inl (1, 0, 0)) ∗ Zr c (.inl (1, 0, 0)) ∗ Src m ρ c (.inl (1, 1, 0)) ∗ Owes c 11) -∗ Kt ⟨⟩)
        -∗ run c (onBufs k0_part15 w D) Kt) := by
  subst hD
  unfold onBufs
  rw [k0_part15_eq_skeleton]
  unfold k0_part15_skel
  simp only [Prog.lift, Prog.bind_op, Prog.bind_ret, Prog.pure_eq_ret]
  iintro ⟨#HE, Hf, Hr, HO⟩ Hk
  iapply (go_sent m ρ c K (.inl (1, 0, 0)) 11 (by decide) (hq := rfl) (hm := credit_src (.inl (1, 0, 0)))) $$ HE Hf HO
  iintro ⟨Hs, Hz, HO⟩
  iapply (go_landed m ρ c K (.inl (1, 0, 0)) 11 (by decide) (hq := rfl) (hm := credit_dst (.inl (1, 0, 0)))) $$ HE Hr HO
  iintro ⟨Hd, Hz', HO⟩
  iapply (go_add c 1 1 0 (vL0 m ρ (right c) 0) (vL1 m ρ c 0) (Dst m ρ c (.inl (1, 0, 0))) (Src m ρ c (.inl (1, 1, 0))) rfl rfl
    (p := fun v => k0_pay27 (part m ρ c (tgt c 6)) v) (acc_piece (vL0 m ρ (right c) 0) (half 0 (part m ρ c (tgt c 6))))) $$ Hd
  iintro Hd
  iapply (run_ret c)
  iapply Hk
  isplitl [Hs]; · iexact Hs
  isplitl [Hz]; · iexact Hz
  isplitl [Hz']; · iexact Hz'
  isplitl [Hd]; · iexact Hd
  iexact HO

/-- and travels on to the left while the lower half of the first block is waited for. -/
theorem part16 {Kt : PUnit → sProp 𝕄} :
    iprop(Env m ρ K ∗ (Snd c (.inl (1, 1, 0)) ∗ Src m ρ c (.inl (1, 1, 0)) ∗ To c (.inl (1, 1, 0))) ∗ Fly c (.inl (1, 0, 1)) ∗ Owes c 11)
      ⊢ iprop(((Fly c (.inl (1, 1, 0)) ∗ Src m ρ c (.inl (1, 0, 1)) ∗ Zs c (.inl (1, 0, 1)) ∗ Owes c 12) -∗ Kt ⟨⟩)
        -∗ run c (onBufs k0_part16 (wd (left c)) (chk_left _)) Kt) := by
  unfold onBufs
  rw [k0_part16_eq_skeleton]
  unfold k0_part16_skel
  simp only [Prog.lift, Prog.bind_op, Prog.bind_ret, Prog.pure_eq_ret]
  iintro ⟨#HE, ⟨Hs, Hv, Ht⟩, Hf, HO⟩ Hk
  iapply (go_enq m ρ c K (.inl (1, 1, 0)) 11 rfl (hn := Fin.ext (devs_left (left c)).2.2.2.1) (hs := rfl) (hd := rfl) (hqs := rfl) (hqr := rfl)) $$ HE Hs Hv Ht HO
  iintro ⟨Hg, HO⟩
  iapply (go_sent m ρ c K (.inl (1, 0, 1)) 12 (by decide) (hq := rfl) (hm := credit_src (.inl (1, 0, 1)))) $$ HE Hf HO
  iintro ⟨Hs, Hz, HO⟩
  iapply (run_ret c)
  iapply Hk
  isplitl [Hg]; · iexact Hg
  isplitl [Hs]; · iexact Hs
  isplitl [Hz]; · iexact Hz
  iexact HO

/-- The lower half arrives, gains this device's block and travels on. -/
theorem part17 {Kt : PUnit → sProp 𝕄} (D : FVec F S128x4096 .f32) (hD : D = part m ρ c (tgt c 6)) :
    iprop(Env m ρ K ∗ Rcv c (.inl (1, 0, 1)) ∗ (Snd c (.inl (1, 1, 1)) ∗ To c (.inl (1, 1, 1))) ∗ Owes c 12)
      ⊢ iprop(((Zr c (.inl (1, 0, 1)) ∗ Fly c (.inl (1, 1, 1)) ∗ Owes c 13) -∗ Kt ⟨⟩)
        -∗ run c (onBufs k0_part17 (wd (left c)) (chk_left _) D) Kt) := by
  subst hD
  unfold onBufs
  rw [k0_part17_eq_skeleton]
  unfold k0_part17_skel
  simp only [Prog.lift, Prog.bind_op, Prog.bind_ret, Prog.pure_eq_ret]
  iintro ⟨#HE, Hr, ⟨Hs, Ht⟩, HO⟩ Hk
  iapply (go_landed m ρ c K (.inl (1, 0, 1)) 12 (by decide) (hq := rfl) (hm := credit_dst (.inl (1, 0, 1)))) $$ HE Hr HO
  iintro ⟨Hd, Hz, HO⟩
  iapply (go_add c 1 1 1 (vL0 m ρ (right c) 1) (vL1 m ρ c 1) (Dst m ρ c (.inl (1, 0, 1))) (Src m ρ c (.inl (1, 1, 1))) rfl rfl
    (p := fun v => k0_pay28 (part m ρ c (tgt c 6)) v) (acc_piece (vL0 m ρ (right c) 1) (half 1 (part m ρ c (tgt c 6))))) $$ Hd
  iintro Hv
  iapply (go_enq m ρ c K (.inl (1, 1, 1)) 12 rfl (hn := Fin.ext (devs_left (left c)).2.2.2.2.1) (hs := rfl) (hd := rfl) (hqs := rfl) (hqr := rfl)) $$ HE Hs Hv Ht HO
  iintro ⟨Hg, HO⟩
  iapply (run_ret c)
  iapply Hk
  isplitl [Hz]; · iexact Hz
  isplitl [Hg]; · iexact Hg
  iexact HO

/-- The chord's upper half has left and the partner's has landed; the lower half has left. -/
theorem part18 {Kt : PUnit → sProp 𝕄} :
    iprop(Env m ρ K ∗ Fly c (.inr 0) ∗ Rcv c (.inr 0) ∗ Fly c (.inr 1) ∗ Owes c 13)
      ⊢ iprop(((Src m ρ c (.inr 0) ∗ Zs c (.inr 0) ∗ Dst m ρ c (.inr 0) ∗ Zr c (.inr 0) ∗ Src m ρ c (.inr 1) ∗ Zs c (.inr 1) ∗ Owes c 13) -∗ Kt ⟨⟩)
        -∗ run c (onBufs k0_part18 w) Kt) := by
  unfold onBufs
  rw [k0_part18_eq_skeleton]
  unfold k0_part18_skel
  simp only [Prog.lift, Prog.bind_op, Prog.bind_ret, Prog.pure_eq_ret]
  iintro ⟨#HE, Hf, Hr, Hf', HO⟩ Hk
  iapply (go_sent m ρ c K (.inr 0) 13 (by decide) (hq := rfl) (hm := credit_src (.inr 0))) $$ HE Hf HO
  iintro ⟨Hs, Hz, HO⟩
  iapply (go_landed m ρ c K (.inr 0) 13 (by decide) (hq := rfl) (hm := credit_dst (.inr 0))) $$ HE Hr HO
  iintro ⟨Hd, Hz', HO⟩
  iapply (go_sent m ρ c K (.inr 1) 13 (by decide) (hq := rfl) (hm := credit_src (.inr 1))) $$ HE Hf' HO
  iintro ⟨Hs', Hz'', HO⟩
  iapply (run_ret c)
  iapply Hk
  isplitl [Hs]; · iexact Hs
  isplitl [Hz]; · iexact Hz
  isplitl [Hd]; · iexact Hd
  isplitl [Hz']; · iexact Hz'
  isplitl [Hs']; · iexact Hs'
  isplitl [Hz'']; · iexact Hz''
  iexact HO

end Parts

end Cert.KernelIdeal.RS
end
-- ==== Proof.BodyC.lean ====
/- The end of the body: the third step of each link, where the chord's block joins one of the streams by the device's parity,
   and the two halves of the result. -/
module

public import proofs.«01_k».proof.Proof.Flow

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What the first link's third piece holds between the two branches; -/
abbrev midR (c : Dev nD) (j : Fin 2) : FVec F S64x4096 .f32 :=
  chosen (!even c) (vR1 m ρ (left c) j) (addf (addf (vR1 m ρ (left c) j) (half j (part m ρ c (tgt c 1)))) (vC m ρ (partner c) j))
/-- after both it holds what the link carries on, -/
theorem midR_add (c : Dev nD) (j : Fin 2) :
    chosen (even c) (midR m ρ c j) (addf (midR m ρ c j) (half j (part m ρ c (tgt c 1)))) = vR2 m ρ c j := by
  unfold midR vR2 chosen
  cases even c <;> rfl
/-- The same on the second link. -/
abbrev midL (c : Dev nD) (j : Fin 2) : FVec F S64x4096 .f32 :=
  chosen (even c) (vL1 m ρ (right c) j) (addf (addf (vL1 m ρ (right c) j) (half j (part m ρ c (tgt c 7)))) (vC m ρ (partner c) j))
theorem midL_add (c : Dev nD) (j : Fin 2) :
    chosen (!even c) (midL m ρ c j) (addf (midL m ρ c j) (half j (part m ρ c (tgt c 7)))) = vL2 m ρ c j := by
  unfold midL vL2 chosen
  cases even c <;> rfl

section Parts

variable (K : Dev nD × Ck → ℕ) (c : Dev nD) (w : BitVec 32)

/-- The chord's lower half has landed; the first link's second arrival, upper half, gains this device's block and, on odd
    devices, the chord's. -/
theorem part19 {Kt : (Σ' (v522 : BitVec 1) (v537 : FVec F S64x4096 .f32) (v541 : BitVec 32), BitVec 32) → sProp 𝕄} (D : FVec F S128x4096 .f32)
    (hD : D = part m ρ c (tgt c 1)) :
    iprop(Env m ρ K ∗ Rcv c (.inr 1) ∗ Fly c (.inl (0, 1, 0)) ∗ Rcv c (.inl (0, 1, 0)) ∗ Dst m ρ c (.inr 0) ∗ Owes c 13)
      ⊢ iprop(((Dst m ρ c (.inr 1) ∗ Zr c (.inr 1) ∗ Src m ρ c (.inl (0, 1, 0)) ∗ Zs c (.inl (0, 1, 0)) ∗ Zr c (.inl (0, 1, 0))
            ∗ at' c (cm 0 2 0) (midR m ρ c 0) ∗ Dst m ρ c (.inr 0) ∗ Owes c 13)
          -∗ Kt ⟨Scalar.xori (evenBit c) 1#1, k0_pay29 D, Scalar.extui (Scalar.xori (Scalar.xori (evenBit c) 1#1) 1#1), 0#32⟩)
        -∗ run c (onBufs k0_part19 w (evenBit c) D) Kt) := by
  subst hD
  unfold onBufs
  rw [k0_part19_eq_skeleton]
  unfold k0_part19_skel
  simp only [Prog.lift, Prog.bind_op, Prog.bind_ret, Prog.pure_eq_ret]
  iintro ⟨#HE, Hr, Hf, Hr', HC, HO⟩ Hk
  iapply (go_landed m ρ c K (.inr 1) 13 (by decide) (hq := rfl) (hm := credit_dst (.inr 1))) $$ HE Hr HO
  iintro ⟨Hd, Hz, HO⟩
  iapply (go_sent m ρ c K (.inl (0, 1, 0)) 13 (by decide) (hq := rfl) (hm := credit_src (.inl (0, 1, 0)))) $$ HE Hf HO
  iintro ⟨Hs, Hz', HO⟩
  iapply (go_landed m ρ c K (.inl (0, 1, 0)) 13 (by decide) (hq := rfl) (hm := credit_dst (.inl (0, 1, 0)))) $$ HE Hr' HO
  iintro ⟨Hd', Hz'', HO⟩
  iapply (go_if_cut c 0 2 0 (vR1 m ρ (left c) 0) (addf (addf (vR1 m ρ (left c) 0) (half 0 (part m ρ c (tgt c 1)))) (vC m ρ (partner c) 0))
    (vC m ρ (partner c) 0) (Dst m ρ c (.inl (0, 1, 0))) (Dst m ρ c (.inr 0)) rfl rfl
    (p := fun v v' => k0_pay30 (part m ρ c (tgt c 1)) v v') (!even c) (branch_odd c) shapeCasts_S1x64x4096_S64x4096.symm
    (acc_cut (vR1 m ρ (left c) 0) (half 0 (part m ρ c (tgt c 1))) (vC m ρ (partner c) 0) _)) $$ Hd' HC
  iintro ⟨Hd', HC⟩
  iapply (run_ret c)
  iapply Hk
  isplitl [Hd]; · iexact Hd
  isplitl [Hz]; · iexact Hz
  isplitl [Hs]; · iexact Hs
  isplitl [Hz']; · iexact Hz'
  isplitl [Hz'']; · iexact Hz''
  isplitl [Hd']; · iexact Hd'
  isplitl [HC]; · iexact HC
  iexact HO

/-- On even devices it gains this device's block alone; it travels on. -/
theorem part20 {Kt : PUnit → sProp 𝕄} (D : FVec F S128x4096 .f32) (hD : D = part m ρ c (tgt c 1)) :
    iprop(Env m ρ K ∗ at' c (cm 0 2 0) (midR m ρ c 0) ∗ (Snd c (.inl (0, 2, 0)) ∗ To c (.inl (0, 2, 0))) ∗ Fly c (.inl (0, 1, 1)) ∗ Owes c 13)
      ⊢ iprop(((Fly c (.inl (0, 2, 0)) ∗ Src m ρ c (.inl (0, 1, 1)) ∗ Zs c (.inl (0, 1, 1)) ∗ Owes c 14) -∗ Kt ⟨⟩)
        -∗ run c (onBufs k0_part20 (wd (right c)) (chk_right _) (k0_pay29 D) (Scalar.extui (Scalar.xori (Scalar.xori (evenBit c) 1#1) 1#1)) 0#32) Kt) := by
  subst hD
  unfold onBufs
  rw [k0_part20_eq_skeleton]
  unfold k0_part20_skel
  simp only [Prog.lift, Prog.bind_op, Prog.bind_ret, Prog.pure_eq_ret]
  iintro ⟨#HE, Hd, ⟨Hs, Ht⟩, Hf, HO⟩ Hk
  iapply (go_if_add c 0 2 0 (midR m ρ c 0) (addf (midR m ρ c 0) (half 0 (part m ρ c (tgt c 1))))
    (at' c (cm 0 2 0) (midR m ρ c 0)) rfl (p := fun v => k0_pay31 (k0_pay29 (part m ρ c (tgt c 1))) v) (even c) (branch_not_odd c)
    (acc_piece (midR m ρ c 0) (half 0 (part m ρ c (tgt c 1))))) $$ Hd
  iintro Hv
  ihave Hv := (show at' c (cm 0 2 0) (chosen (even c) (midR m ρ c 0) (addf (midR m ρ c 0) (half 0 (part m ρ c (tgt c 1)))))
      ⊢ Src m ρ c (.inl (0, 2, 0)) from by rw [midR_add]; exact .rfl) $$ Hv
  iapply (go_enq m ρ c K (.inl (0, 2, 0)) 13 rfl (hn := Fin.ext (devs_right (right c)).2.2.2.2.2.1) (hs := rfl) (hd := rfl) (hqs := rfl) (hqr := rfl)) $$ HE Hs Hv Ht HO
  iintro ⟨Hg, HO⟩
  iapply (go_sent m ρ c K (.inl (0, 1, 1)) 14 (by decide) (hq := rfl) (hm := credit_src (.inl (0, 1, 1)))) $$ HE Hf HO
  iintro ⟨Hs, Hz, HO⟩
  iapply (run_ret c)
  iapply Hk
  isplitl [Hg]; · iexact Hg
  isplitl [Hs]; · iexact Hs
  isplitl [Hz]; · iexact Hz
  iexact HO

/-- The lower half of the same step. -/
theorem part21 {Kt : PUnit → sProp 𝕄} (D : FVec F S128x4096 .f32) (hD : D = part m ρ c (tgt c 1)) :
    iprop(Env m ρ K ∗ Rcv c (.inl (0, 1, 1)) ∗ Dst m ρ c (.inr 1) ∗ (Snd c (.inl (0, 2, 1)) ∗ To c (.inl (0, 2, 1))) ∗ Owes c 14)
      ⊢ iprop(((Zr c (.inl (0, 1, 1)) ∗ Dst m ρ c (.inr 1) ∗ Fly c (.inl (0, 2, 1)) ∗ Owes c 15) -∗ Kt ⟨⟩)
        -∗ run c (onBufs k0_part21 (wd (right c)) (chk_right _) D (Scalar.xori (evenBit c) 1#1)) Kt) := by
  subst hD
  unfold onBufs
  rw [k0_part21_eq_skeleton]
  unfold k0_part21_skel
  simp only [Prog.lift, Prog.bind_op, Prog.bind_ret, Prog.pure_eq_ret]
  iintro ⟨#HE, Hr, HC, ⟨Hs, Ht⟩, HO⟩ Hk
  iapply (go_landed m ρ c K (.inl (0, 1, 1)) 14 (by decide) (hq := rfl) (hm := credit_dst (.inl (0, 1, 1)))) $$ HE Hr HO
  iintro ⟨Hd, Hz, HO⟩
  iapply (go_if_cut c 0 2 1 (vR1 m ρ (left c) 1) (addf (addf (vR1 m ρ (left c) 1) (half 1 (part m ρ c (tgt c 1)))) (vC m ρ (partner c) 1))
    (vC m ρ (partner c) 1) (Dst m ρ c (.inl (0, 1, 1))) (Dst m ρ c (.inr 1)) rfl rfl
    (p := fun v v' => k0_pay33 (part m ρ c (tgt c 1)) v v') (!even c) (branch_odd c) shapeCasts_S1x64x4096_S64x4096.symm
    (acc_cut (vR1 m ρ (left c) 1) (half 1 (part m ρ c (tgt c 1))) (vC m ρ (partner c) 1) _)) $$ Hd HC
  iintro ⟨Hd, HC⟩
  ihave Hd := (show _ ⊢ at' c (cm 0 2 1) (midR m ρ c 1) from .rfl) $$ Hd
  iapply (go_if_add c 0 2 1 (midR m ρ c 1) (addf (midR m ρ c 1) (half 1 (part m ρ c (tgt c 1))))
    (at' c (cm 0 2 1) (midR m ρ c 1)) rfl (p := fun v => k0_pay34 (part m ρ c (tgt c 1)) v) (even c) (branch_not_odd c)
    (acc_piece (midR m ρ c 1) (half 1 (part m ρ c (tgt c 1))))) $$ Hd
  iintro Hv
  ihave Hv := (show at' c (cm 0 2 1) (chosen (even c) (midR m ρ c 1) (addf (midR m ρ c 1) (half 1 (part m ρ c (tgt c 1)))))
      ⊢ Src m ρ c (.inl (0, 2, 1)) from by rw [midR_add]; exact .rfl) $$ Hv
  iapply (go_enq m ρ c K (.inl (0, 2, 1)) 14 rfl (hn := Fin.ext (devs_right (right c)).2.2.2.2.2.2) (hs := rfl) (hd := rfl) (hqs := rfl) (hqr := rfl)) $$ HE Hs Hv Ht HO
  iintro ⟨Hg, HO⟩
  iapply (run_ret c)
  iapply Hk
  isplitl [Hz]; · iexact Hz
  isplitl [HC]; · iexact HC
  isplitl [Hg]; · iexact Hg
  iexact HO

/-- The second link's second arrival, upper half: the chord's block joins on even devices. -/
theorem part22 {Kt : PUnit → sProp 𝕄} (D : FVec F S128x4096 .f32) (hD : D = part m ρ c (tgt c 7)) :
    iprop(Env m ρ K ∗ Fly c (.inl (1, 1, 0)) ∗ Rcv c (.inl (1, 1, 0)) ∗ Dst m ρ c (.inr 0) ∗ Owes c 15)
      ⊢ iprop(((Src m ρ c (.inl (1, 1, 0)) ∗ Zs c (.inl (1, 1, 0)) ∗ Zr c (.inl (1, 1, 0)) ∗ Src m ρ c (.inl (1, 2, 0)) ∗ Dst m ρ c (.inr 0) ∗ Owes c 15)
          -∗ Kt ⟨⟩)
        -∗ run c (onBufs k0_part22 w (evenBit c) D) Kt) := by
  subst hD
  unfold onBufs
  rw [k0_part22_eq_skeleton]
  unfold k0_part22_skel
  simp only [Prog.lift, Prog.bind_op, Prog.bind_ret, Prog.pure_eq_ret]
  iintro ⟨#HE, Hf, Hr, HC, HO⟩ Hk
  iapply (go_sent m ρ c K (.inl (1, 1, 0)) 15 (by decide) (hq := rfl) (hm := credit_src (.inl (1, 1, 0)))) $$ HE Hf HO
  iintro ⟨Hs, Hz, HO⟩
  iapply (go_landed m ρ c K (.inl (1, 1, 0)) 15 (by decide) (hq := rfl) (hm := credit_dst (.inl (1, 1, 0)))) $$ HE Hr HO
  iintro ⟨Hd, Hz', HO⟩
  iapply (go_if_cut c 1 2 0 (vL1 m ρ (right c) 0) (addf (addf (vL1 m ρ (right c) 0) (half 0 (part m ρ c (tgt c 7)))) (vC m ρ (partner c) 0))
    (vC m ρ (partner c) 0) (Dst m ρ c (.inl (1, 1, 0))) (Dst m ρ c (.inr 0)) rfl rfl
    (p := fun v v' => k0_pay36 (part m ρ c (tgt c 7)) v v') (even c) (branch_even c) shapeCasts_S1x64x4096_S64x4096.symm
    (acc_cut (vL1 m ρ (right c) 0) (half 0 (part m ρ c (tgt c 7))) (vC m ρ (partner c) 0) _)) $$ Hd HC
  iintro ⟨Hd, HC⟩
  ihave Hd := (show _ ⊢ at' c (cm 1 2 0) (midL m ρ c 0) from .rfl) $$ Hd
  iapply (go_if_add c 1 2 0 (midL m ρ c 0) (addf (midL m ρ c 0) (half 0 (part m ρ c (tgt c 7))))
    (at' c (cm 1 2 0) (midL m ρ c 0)) rfl (p := fun v => k0_pay37 (part m ρ c (tgt c 7)) v) (!even c) (branch_odd c)
    (acc_piece (midL m ρ c 0) (half 0 (part m ρ c (tgt c 7))))) $$ Hd
  iintro Hv
  ihave Hv := (show at' c (cm 1 2 0) (chosen (!even c) (midL m ρ c 0) (addf (midL m ρ c 0) (half 0 (part m ρ c (tgt c 7)))))
      ⊢ Src m ρ c (.inl (1, 2, 0)) from by rw [midL_add]; exact .rfl) $$ Hv
  iapply (run_ret c)
  iapply Hk
  isplitl [Hs]; · iexact Hs
  isplitl [Hz]; · iexact Hz
  isplitl [Hz']; · iexact Hz'
  isplitl [Hv]; · iexact Hv
  isplitl [HC]; · iexact HC
  iexact HO

/-- It travels on to the left. -/
theorem part23 {Kt : PUnit → sProp 𝕄} :
    iprop(Env m ρ K ∗ (Snd c (.inl (1, 2, 0)) ∗ Src m ρ c (.inl (1, 2, 0)) ∗ To c (.inl (1, 2, 0))) ∗ Fly c (.inl (1, 1, 1)) ∗ Owes c 15)
      ⊢ iprop(((Fly c (.inl (1, 2, 0)) ∗ Src m ρ c (.inl (1, 1, 1)) ∗ Zs c (.inl (1, 1, 1)) ∗ Owes c 16) -∗ Kt ⟨⟩)
        -∗ run c (onBufs k0_part23 (wd (left c)) (chk_left _)) Kt) := by
  unfold onBufs
  rw [k0_part23_eq_skeleton]
  unfold k0_part23_skel
  simp only [Prog.lift, Prog.bind_op, Prog.bind_ret, Prog.pure_eq_ret]
  iintro ⟨#HE, ⟨Hs, Hv, Ht⟩, Hf, HO⟩ Hk
  iapply (go_enq m ρ c K (.inl (1, 2, 0)) 15 rfl (hn := Fin.ext (devs_left (left c)).2.2.2.2.2.1) (hs := rfl) (hd := rfl) (hqs := rfl) (hqr := rfl)) $$ HE Hs Hv Ht HO
  iintro ⟨Hg, HO⟩
  iapply (go_sent m ρ c K (.inl (1, 1, 1)) 16 (by decide) (hq := rfl) (hm := credit_src (.inl (1, 1, 1)))) $$ HE Hf HO
  iintro ⟨Hs, Hz, HO⟩
  iapply (run_ret c)
  iapply Hk
  isplitl [Hg]; · iexact Hg
  isplitl [Hs]; · iexact Hs
  isplitl [Hz]; · iexact Hz
  iexact HO

/-- The lower half of the same step. -/
theorem part24 {Kt : PUnit → sProp 𝕄} (D : FVec F S128x4096 .f32) (hD : D = part m ρ c (tgt c 7)) :
    iprop(Env m ρ K ∗ Rcv c (.inl (1, 1, 1)) ∗ Dst m ρ c (.inr 1) ∗ (Snd c (.inl (1, 2, 1)) ∗ To c (.inl (1, 2, 1))) ∗ Owes c 16)
      ⊢ iprop(((Zr c (.inl (1, 1, 1)) ∗ Dst m ρ c (.inr 1) ∗ Fly c (.inl (1, 2, 1)) ∗ Owes c 17) -∗ Kt ⟨⟩)
        -∗ run c (onBufs k0_part24 (wd (left c)) (chk_left _) (evenBit c) D) Kt) := by
  subst hD
  unfold onBufs
  rw [k0_part24_eq_skeleton]
  unfold k0_part24_skel
  simp only [Prog.lift, Prog.bind_op, Prog.bind_ret, Prog.pure_eq_ret]
  iintro ⟨#HE, Hr, HC, ⟨Hs, Ht⟩, HO⟩ Hk
  iapply (go_landed m ρ c K (.inl (1, 1, 1)) 16 (by decide) (hq := rfl) (hm := credit_dst (.inl (1, 1, 1)))) $$ HE Hr HO
  iintro ⟨Hd, Hz, HO⟩
  iapply (go_if_cut c 1 2 1 (vL1 m ρ (right c) 1) (addf (addf (vL1 m ρ (right c) 1) (half 1 (part m ρ c (tgt c 7)))) (vC m ρ (partner c) 1))
    (vC m ρ (partner c) 1) (Dst m ρ c (.inl (1, 1, 1))) (Dst m ρ c (.inr 1)) rfl rfl
    (p := fun v v' => k0_pay39 (part m ρ c (tgt c 7)) v v') (even c) (branch_even c) shapeCasts_S1x64x4096_S64x4096.symm
    (acc_cut (vL1 m ρ (right c) 1) (half 1 (part m ρ c (tgt c 7))) (vC m ρ (partner c) 1) _)) $$ Hd HC
  iintro ⟨Hd, HC⟩
  ihave Hd := (show _ ⊢ at' c (cm 1 2 1) (midL m ρ c 1) from .rfl) $$ Hd
  iapply (go_if_add c 1 2 1 (midL m ρ c 1) (addf (midL m ρ c 1) (half 1 (part m ρ c (tgt c 7))))
    (at' c (cm 1 2 1) (midL m ρ c 1)) rfl (p := fun v => k0_pay40 (part m ρ c (tgt c 7)) v) (!even c) (branch_odd c)
    (acc_piece (midL m ρ c 1) (half 1 (part m ρ c (tgt c 7))))) $$ Hd
  iintro Hv
  ihave Hv := (show at' c (cm 1 2 1) (chosen (!even c) (midL m ρ c 1) (addf (midL m ρ c 1) (half 1 (part m ρ c (tgt c 7)))))
      ⊢ Src m ρ c (.inl (1, 2, 1)) from by rw [midL_add]; exact .rfl) $$ Hv
  iapply (go_enq m ρ c K (.inl (1, 2, 1)) 16 rfl (hn := Fin.ext (devs_left (left c)).2.2.2.2.2.2) (hs := rfl) (hd := rfl) (hqs := rfl) (hqr := rfl)) $$ HE Hs Hv Ht HO
  iintro ⟨Hg, HO⟩
  iapply (run_ret c)
  iapply Hk
  isplitl [Hz]; · iexact Hz
  isplitl [HC]; · iexact HC
  isplitl [Hg]; · iexact Hg
  iexact HO

/-- The last upper halves have left, and the first link's has landed. -/
theorem part25 {Kt : PUnit → sProp 𝕄} :
    iprop(Env m ρ K ∗ Fly c (.inl (0, 2, 0)) ∗ Rcv c (.inl (0, 2, 0)) ∗ Fly c (.inl (1, 2, 0)) ∗ Owes c 17)
      ⊢ iprop(((Src m ρ c (.inl (0, 2, 0)) ∗ Zs c (.inl (0, 2, 0)) ∗ Dst m ρ c (.inl (0, 2, 0)) ∗ Zr c (.inl (0, 2, 0))
            ∗ Src m ρ c (.inl (1, 2, 0)) ∗ Zs c (.inl (1, 2, 0)) ∗ Owes c 17) -∗ Kt ⟨⟩)
        -∗ run c (onBufs k0_part25 w) Kt) := by
  unfold onBufs
  rw [k0_part25_eq_skeleton]
  unfold k0_part25_skel
  simp only [Prog.lift, Prog.bind_op, Prog.bind_ret, Prog.pure_eq_ret]
  iintro ⟨#HE, Hf, Hr, Hf', HO⟩ Hk
  iapply (go_sent m ρ c K (.inl (0, 2, 0)) 17 (by decide) (hq := rfl) (hm := credit_src (.inl (0, 2, 0)))) $$ HE Hf HO
  iintro ⟨Hs, Hz, HO⟩
  iapply (go_landed m ρ c K (.inl (0, 2, 0)) 17 (by decide) (hq := rfl) (hm := credit_dst (.inl (0, 2, 0)))) $$ HE Hr HO
  iintro ⟨Hd, Hz', HO⟩
  iapply (go_sent m ρ c K (.inl (1, 2, 0)) 17 (by decide) (hq := rfl) (hm := credit_src (.inl (1, 2, 0)))) $$ HE Hf' HO
  iintro ⟨Hs', Hz'', HO⟩
  iapply (run_ret c)
  iapply Hk
  isplitl [Hs]; · iexact Hs
  isplitl [Hz]; · iexact Hz
  isplitl [Hd]; · iexact Hd
  isplitl [Hz']; · iexact Hz'
  isplitl [Hs']; · iexact Hs'
  isplitl [Hz'']; · iexact Hz''
  iexact HO

/-- The second link's has landed: the result's upper half is written. -/
theorem part26 {Kt : PUnit → sProp 𝕄} (D : FVec F S128x4096 .f32) (hD : D = part m ρ c c) (f : cc0_stg2_0.ty.Contents (Elt F)) :
    iprop(Env m ρ K ∗ Rcv c (.inl (1, 2, 0)) ∗ Dst m ρ c (.inl (0, 2, 0)) ∗ oPts c f ∗ Fly c (.inl (0, 2, 1)) ∗ Owes c 17)
      ⊢ iprop(((Dst m ρ c (.inl (1, 2, 0)) ∗ Zr c (.inl (1, 2, 0)) ∗ Dst m ρ c (.inl (0, 2, 0))
            ∗ oPts c (put oM.view (Rect.unit (s := S128x4096) ![0, 0] S64x4096.size inb_S128x4096_S64x4096_0_0) f (outH m ρ c 0))
            ∗ Src m ρ c (.inl (0, 2, 1)) ∗ Zs c (.inl (0, 2, 1)) ∗ Owes c 17) -∗ Kt ⟨⟩)
        -∗ run c (onBufs k0_part26 w D) Kt) := by
  subst hD
  unfold onBufs
  rw [k0_part26_eq_skeleton]
  unfold k0_part26_skel
  simp only [Prog.lift, Prog.bind_op, Prog.bind_ret, Prog.pure_eq_ret]
  iintro ⟨#HE, Hr, Hd, Ho, Hf, HO⟩ Hk
  iapply (go_landed m ρ c K (.inl (1, 2, 0)) 17 (by decide) (hq := rfl) (hm := credit_dst (.inl (1, 2, 0)))) $$ HE Hr HO
  iintro ⟨Hd', Hz, HO⟩
  iapply (go_load c 0 3 0 (vR2 m ρ (left c) 0) (Dst m ρ c (.inl (0, 2, 0))) rfl) $$ Hd
  iintro Hd
  iapply (go_load c 1 3 0 (vL2 m ρ (right c) 0) (Dst m ρ c (.inl (1, 2, 0))) rfl) $$ Hd'
  iintro Hd'
  iapply (wp_load_o c f) $$ Ho
  iintro Ho
  iapply (wp_store_o c f) $$ Ho
  iintro Ho
  iapply (go_sent m ρ c K (.inl (0, 2, 1)) 17 (by decide) (hq := rfl) (hm := credit_src (.inl (0, 2, 1)))) $$ HE Hf HO
  iintro ⟨Hs, Hz', HO⟩
  iapply (run_ret c)
  iapply Hk
  isplitl [Hd']; · iexact Hd'
  isplitl [Hz]; · iexact Hz
  isplitl [Hd]; · iexact Hd
  isplitl [Ho]
  · rw [← show k0_pay41 (part m ρ c c) (shapeCast S1x1x64x4096 (vR2 m ρ (left c) 0) shapeCasts_S64x4096_S1x1x64x4096)
        (shapeCast S1x1x64x4096 (vL2 m ρ (right c) 0) shapeCasts_S64x4096_S1x1x64x4096) = outH m ρ c 0
      from out_piece (vR2 m ρ (left c) 0) (vL2 m ρ (right c) 0) (half 0 (part m ρ c c))]
    iexact Ho
  isplitl [Hs]; · iexact Hs
  isplitl [Hz']; · iexact Hz'
  iexact HO

/-- The last lower halves: the first link's has landed, the second's has left. -/
theorem part27 {Kt : PUnit → sProp 𝕄} (w' : BitVec 32) :
    iprop(Env m ρ K ∗ Rcv c (.inl (0, 2, 1)) ∗ Fly c (.inl (1, 2, 1)) ∗ Owes c 17)
      ⊢ iprop(((Dst m ρ c (.inl (0, 2, 1)) ∗ Zr c (.inl (0, 2, 1)) ∗ Src m ρ c (.inl (1, 2, 1)) ∗ Zs c (.inl (1, 2, 1)) ∗ Owes c 17) -∗ Kt ⟨⟩)
        -∗ run c (onBufs k0_part27 w w') Kt) := by
  unfold onBufs
  rw [k0_part27_eq_skeleton]
  unfold k0_part27_skel
  simp only [Prog.lift, Prog.bind_op, Prog.bind_ret, Prog.pure_eq_ret]
  iintro ⟨#HE, Hr, Hf, HO⟩ Hk
  iapply (go_landed m ρ c K (.inl (0, 2, 1)) 17 (by decide) (hq := rfl) (hm := credit_dst (.inl (0, 2, 1)))) $$ HE Hr HO
  iintro ⟨Hd, Hz, HO⟩
  iapply (go_sent m ρ c K (.inl (1, 2, 1)) 17 (by decide) (hq := rfl) (hm := credit_src (.inl (1, 2, 1)))) $$ HE Hf HO
  iintro ⟨Hs, Hz', HO⟩
  iapply (run_ret c)
  iapply Hk
  isplitl [Hd]; · iexact Hd
  isplitl [Hz]; · iexact Hz
  isplitl [Hs]; · iexact Hs
  isplitl [Hz']; · iexact Hz'
  iexact HO

end Parts

end Cert.KernelIdeal.RS
end
-- ==== Proof.Body.lean ====
/- The whole body on one device: its parts, in order. -/
module

public import proofs.«01_k».proof.Proof.BodyA
public import proofs.«01_k».proof.Proof.BodyB
public import proofs.«01_k».proof.Proof.BodyC

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The fourteen transfers one by one. -/
theorem all_xf (Φ : Xf → sProp 𝕄) : bigSep Finset.univ Φ
    = iprop(Φ (.inl (0, 0, 0)) ∗ Φ (.inl (0, 0, 1)) ∗ Φ (.inl (0, 1, 0)) ∗ Φ (.inl (0, 1, 1)) ∗ Φ (.inl (0, 2, 0)) ∗ Φ (.inl (0, 2, 1))
      ∗ Φ (.inl (1, 0, 0)) ∗ Φ (.inl (1, 0, 1)) ∗ Φ (.inl (1, 1, 0)) ∗ Φ (.inl (1, 1, 1)) ∗ Φ (.inl (1, 2, 0)) ∗ Φ (.inl (1, 2, 1))
      ∗ Φ (.inr 0) ∗ Φ (.inr 1)) :=
  (bigSep_univ_eq_bigSepL [.inl (0, 0, 0), .inl (0, 0, 1), .inl (0, 1, 0), .inl (0, 1, 1), .inl (0, 2, 0), .inl (0, 2, 1),
    .inl (1, 0, 0), .inl (1, 0, 1), .inl (1, 1, 0), .inl (1, 1, 1), .inl (1, 2, 0), .inl (1, 2, 1), .inr 0, .inr 1] (by decide) (by decide) Φ).trans
    (by simp only [bigSepL_cons_cons, bigSepL_singleton]; rfl)

section Body

variable (K : Dev nD × Ck → ℕ) (c : Dev nD)

/-- What a neighbour on a link hands over at the barrier: the pieces the link's transfers write there; -/
theorem land_right : (land (nb 0 c) 0 : sProp 𝕄) ⊢ iprop(To c (.inl (0, 0, 0)) ∗ To c (.inl (0, 0, 1)) ∗ To c (.inl (0, 1, 0)) ∗ To c (.inl (0, 1, 1))
    ∗ To c (.inl (0, 2, 0)) ∗ To c (.inl (0, 2, 1))) := .rfl
theorem land_left : (land (nb 1 c) 1 : sProp 𝕄) ⊢ iprop(To c (.inl (1, 0, 0)) ∗ To c (.inl (1, 0, 1)) ∗ To c (.inl (1, 1, 0)) ∗ To c (.inl (1, 1, 1))
    ∗ To c (.inl (1, 2, 0)) ∗ To c (.inl (1, 2, 1))) := .rfl
/-- and the partner's. -/
theorem land_cut : (landC (nb 2 c) : sProp 𝕄) ⊢ iprop(To c (.inr 0) ∗ To c (.inr 1)) := .rfl

/-- What the body starts from, beside the records: its positions, tokens and credits, the slots it fills, the staged operands and the
    result's staging buffer. -/
def bodyIn (c : Dev nD) (f : cc0_stg2_0.ty.Contents (Elt F)) : sProp 𝕄 :=
  iprop((atPos ER (barCell c) 0 ∅ 0 ∗ cred (tallyAt (barCell c) () 3)) ∗ (Sig c 0 ∗ Sig c 1 ∗ Sig c 2)
    ∗ bigSep Finset.univ (fun t : Xf => Snd c t) ∗ bigSep Finset.univ (fun t : Xf => Rcv c t)
    ∗ (someAt commM (slotR 0) c ∗ someAt commM (slotR 1) c ∗ someAt cutM cutR c)
    ∗ (xPts m ρ c ∗ yPts m ρ c ∗ oPts c f) ∗ Owes c 0)

/-- What it ends with: every cell at zero, every piece back, and the result's two halves written. -/
def bodyOut (c : Dev nD) : sProp 𝕄 :=
  iprop(Zero c none ∗ bigSep Finset.univ (fun t : Xf => iprop(Zs c t ∗ Zr c t)) ∗ bigSep Finset.univ (fun t : Xf => Src m ρ c t)
    ∗ (Dst m ρ c (.inl (0, 2, 0)) ∗ Dst m ρ c (.inl (0, 2, 1)) ∗ Dst m ρ c (.inl (1, 2, 0)) ∗ Dst m ρ c (.inl (1, 2, 1))
      ∗ Dst m ρ c (.inr 0) ∗ Dst m ρ c (.inr 1))
    ∗ (xPts m ρ c ∗ yPts m ρ c ∗ oPts c (stack (outH m ρ c 0) (outH m ρ c 1))) ∗ Owes c 17)

/-- The two halves written are the whole result. -/
theorem out_done (f : cc0_stg2_0.ty.Contents (Elt F)) :
    oPts c (put oM.view (Rect.unit (s := S128x4096) ![64, 0] S64x4096.size inb_S128x4096_S64x4096_64_0)
      (put oM.view (Rect.unit (s := S128x4096) ![0, 0] S64x4096.size inb_S128x4096_S64x4096_0_0) f (outH m ρ c 0))
      (k0_pay1 (k0_pay24 (xcols m ρ c c) (ystg m ρ c)) (shapeCast S1x1x64x4096 (vR2 m ρ (left c) 1) shapeCasts_S64x4096_S1x1x64x4096)
        (shapeCast S1x1x64x4096 (vL2 m ρ (right c) 1) shapeCasts_S64x4096_S1x1x64x4096)))
      ⊢ oPts c (stack (outH m ρ c 0) (outH m ρ c 1)) := by
  rw [show k0_pay1 (k0_pay24 (xcols m ρ c c) (ystg m ρ c)) (shapeCast S1x1x64x4096 (vR2 m ρ (left c) 1) shapeCasts_S64x4096_S1x1x64x4096)
      (shapeCast S1x1x64x4096 (vL2 m ρ (right c) 1) shapeCasts_S64x4096_S1x1x64x4096) = outH m ρ c 1
    from out_piece (vR2 m ρ (left c) 1) (vL2 m ρ (right c) 1) (half 1 (part m ρ c c)), stack_writes]

set_option maxHeartbeats 4000000 in
/-- The body from its start to its end. -/
theorem body_run {Kt : PUnit → sProp 𝕄} (f : cc0_stg2_0.ty.Contents (Elt F)) :
    iprop(Env m ρ K ∗ bodyIn m ρ c f) ⊢ iprop((bodyOut m ρ c -∗ Kt ⟨⟩) -∗ run c (onBufs cc0_body) Kt) := by
  unfold onBufs bodyIn
  rw [cc0_body_eq_skeleton]
  unfold cc0_body_skel
  rw [all_xf, all_xf]
  iintro ⟨#HE, HB, ⟨Hg0, Hg1, Hg2⟩, ⟨S000, S001, S010, S011, S020, S021, S100, S101, S110, S111, S120, S121, SC0, SC1⟩,
    ⟨R000, R001, R010, R011, R020, R021, R100, R101, R110, R111, R120, R121, RC0, RC1⟩, ⟨Hc0, Hc1, Hcut⟩, ⟨Hx, Hy, Ho⟩, HO⟩ Hk
  iapply (run_bind c)
  iapply (part1 c)
  dsimp only
  iapply (run_bind c)
  iapply (part2 c)
  dsimp only
  iapply (run_bind c)
  iapply (part3 m ρ K c) $$ [Hg0 Hg1 Hg2 HO]
  · iframe # ∗
  iintro HO
  dsimp only
  iapply (run_bind c)
  iapply (part4 m ρ K c) $$ [Hx Hy Hc0 HB HO]
  · iframe # ∗
  iintro ⟨Hx, Hy, V000, V001, L1, L2, L3, Hz, HO⟩
  ihave L1 := (land_right c) $$ L1
  ihave L2 := (land_left c) $$ L2
  ihave L3 := (land_cut c) $$ L3
  icases L1 with ⟨T000, T001, T010, T011, T020, T021⟩
  icases L2 with ⟨T100, T101, T110, T111, T120, T121⟩
  icases L3 with ⟨TC0, TC1⟩
  try dsimp only
  iapply (run_bind c)
  iapply (part5 m ρ K c _) $$ [S000 V000 T000 S001 V001 T001 HO]
  · iframe # ∗
  iintro ⟨F000, F001, HO⟩
  try dsimp only
  iapply (run_bind c)
  iapply (part6 m ρ K c) $$ [Hx Hy Hc1 S100 T100 HO]
  · iframe # ∗
  iintro ⟨Hx, Hy, V101, F100, HO⟩
  try dsimp only
  iapply (run_bind c)
  iapply (part7 m ρ K c) $$ [Hx S101 V101 T101 HO]
  · iframe # ∗
  iintro ⟨Hx, F101, HO⟩
  try dsimp only
  iapply (run_bind c)
  iapply (part8 m ρ K c _) $$ [Hy Hcut SC0 TC0 SC1 TC1 HO]
  · iframe # ∗
  iintro ⟨Hy, FC0, FC1, HO⟩
  try dsimp only
  iapply (run_bind c)
  iapply (part9 m ρ c) $$ [Hx Hy]
  · iframe # ∗
  iintro ⟨Hx, Hy⟩
  try dsimp only
  iapply (run_bind c)
  iapply (part10 m ρ c) $$ [Hx Hy]
  · iframe # ∗
  iintro ⟨Hx, Hy⟩
  try dsimp only
  iapply (run_bind c)
  iapply (part11 m ρ c _) $$ [Hx Hy]
  · iframe # ∗
  iintro ⟨Hx, Hy⟩
  try dsimp only
  iapply (run_bind c)
  iapply (part12 m ρ K c _ _ rfl) $$ [F000 R000 HO]
  · iframe # ∗
  iintro ⟨V000, Zs000, Zr000, V010, HO⟩
  try dsimp only
  iapply (run_bind c)
  iapply (part13 m ρ K c) $$ [S010 V010 T010 F001 HO]
  · iframe # ∗
  iintro ⟨F010, V001, Zs001, HO⟩
  try dsimp only
  iapply (run_bind c)
  iapply (part14 m ρ K c _ rfl) $$ [R001 S011 T011 HO]
  · iframe # ∗
  iintro ⟨Zr001, F011, HO⟩
  try dsimp only
  iapply (run_bind c)
  iapply (part15 m ρ K c _ _ rfl) $$ [F100 R100 HO]
  · iframe # ∗
  iintro ⟨V100, Zs100, Zr100, V110, HO⟩
  try dsimp only
  iapply (run_bind c)
  iapply (part16 m ρ K c) $$ [S110 V110 T110 F101 HO]
  · iframe # ∗
  iintro ⟨F110, V101, Zs101, HO⟩
  try dsimp only
  iapply (run_bind c)
  iapply (part17 m ρ K c _ rfl) $$ [R101 S111 T111 HO]
  · iframe # ∗
  iintro ⟨Zr101, F111, HO⟩
  try dsimp only
  iapply (run_bind c)
  iapply (part18 m ρ K c _) $$ [FC0 RC0 FC1 HO]
  · iframe # ∗
  iintro ⟨VC0, ZsC0, DC0, ZrC0, VC1, ZsC1, HO⟩
  try dsimp only
  iapply (run_bind c)
  iapply (part19 m ρ K c _ _ rfl) $$ [RC1 F010 R010 DC0 HO]
  · iframe # ∗
  iintro ⟨DC1, ZrC1, V010, Zs010, Zr010, HM, DC0, HO⟩
  try dsimp only
  iapply (run_bind c)
  iapply (part20 m ρ K c _ rfl) $$ [HM S020 T020 F011 HO]
  · iframe # ∗
  iintro ⟨F020, V011, Zs011, HO⟩
  try dsimp only
  iapply (run_bind c)
  iapply (part21 m ρ K c _ rfl) $$ [R011 DC1 S021 T021 HO]
  · iframe # ∗
  iintro ⟨Zr011, DC1, F021, HO⟩
  try dsimp only
  iapply (run_bind c)
  iapply (part22 m ρ K c _ _ rfl) $$ [F110 R110 DC0 HO]
  · iframe # ∗
  iintro ⟨V110, Zs110, Zr110, V120, DC0, HO⟩
  try dsimp only
  iapply (run_bind c)
  iapply (part23 m ρ K c) $$ [S120 V120 T120 F111 HO]
  · iframe # ∗
  iintro ⟨F120, V111, Zs111, HO⟩
  try dsimp only
  iapply (run_bind c)
  iapply (part24 m ρ K c _ rfl) $$ [R111 DC1 S121 T121 HO]
  · iframe # ∗
  iintro ⟨Zr111, DC1, F121, HO⟩
  try dsimp only
  iapply (run_bind c)
  iapply (part25 m ρ K c _) $$ [F020 R020 F120 HO]
  · iframe # ∗
  iintro ⟨V020, Zs020, D020, Zr020, V120, Zs120, HO⟩
  try dsimp only
  iapply (run_bind c)
  iapply (part26 m ρ K c _ _ rfl f) $$ [R120 D020 Ho F021 HO]
  · iframe # ∗
  iintro ⟨D120, Zr120, D020, Ho, V021, Zs021, HO⟩
  try dsimp only
  iapply (run_bind c)
  iapply (part27 m ρ K c _ _) $$ [R021 F121 HO]
  · iframe # ∗
  iintro ⟨D021, Zr021, V121, Zs121, HO⟩
  simp only [Prog.lift, Prog.bind_op, Prog.bind_ret, Prog.pure_eq_ret]
  iapply (go_landed m ρ c K (.inl (1, 2, 1)) 17 (by decide) (hq := rfl) (hm := credit_dst (.inl (1, 2, 1)))) $$ HE R121 HO
  iintro ⟨D121, Zr121, HO⟩
  iapply (go_load c 0 3 1 (vR2 m ρ (left c) 1) (Dst m ρ c (.inl (0, 2, 1))) rfl) $$ D021
  iintro D021
  iapply (go_load c 1 3 1 (vL2 m ρ (right c) 1) (Dst m ρ c (.inl (1, 2, 1))) rfl) $$ D121
  iintro D121
  iapply (wp_load_o c _) $$ Ho
  iintro Ho
  iapply (wp_store_o c _) $$ Ho
  iintro Ho
  ihave Ho := (out_done m ρ c f) $$ Ho
  iapply (run_ret c)
  iapply Hk
  unfold bodyOut
  rw [all_xf, all_xf]
  iframe # ∗

end Body

end Cert.KernelIdeal.RS
end
-- ==== Proof.Bufs.lean ====
/- The two communication buffers cut into the pieces the body uses, and put together again at its end. -/
module

public import proofs.«01_k».proof.Proof.Body

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The pieces of a buffer -/

/-- A buffer held whole is held in the pieces of any partition, each at some contents; -/
theorem cut_up {T : Type} [Fintype T] [DecidableEq T] (ℓ : Loc nD τ sig) (S : T → Finset (Idx ℓ)) (hd : ∀ t t', t ≠ t' → Disjoint (S t) (S t'))
    (hc : ∀ i, ∃ t, i ∈ S t) :
    iprop(∃ f : Buf (Elt F) ℓ, ℓ ↦{fullShare} f) ⊢ (bigSep Finset.univ fun t => iprop(∃ f : Buf (Elt F) ℓ, ℓ ↦[S t]{fullShare} f) : sProp 𝕄) := by
  have hu : (Finset.univ : Finset T).biUnion S = Finset.univ := by
    ext i; obtain ⟨t, ht⟩ := hc i
    exact ⟨fun _ => Finset.mem_univ _, fun _ => Finset.mem_biUnion.mpr ⟨t, Finset.mem_univ _, ht⟩⟩
  iintro ⟨%f, H⟩
  rw [← hu]
  ihave H' := (Entails.of_eq (pointsTo_biUnion (Val := Elt F) (Ix := Unit) (Name := ℕ) (U := UU) (Lvl := ℕ) (ℓ := ℓ) (q := fullShare) (f := f) Finset.univ S
    fun t _ t' _ => hd t t')) $$ H
  iapply (show (bigSep Finset.univ fun t => (ℓ ↦[S t]{fullShare} f : sProp 𝕄)) ⊢ bigSep Finset.univ fun t => iprop(∃ f : Buf (Elt F) ℓ, ℓ ↦[S t]{fullShare} f)
    from bigSep_mono fun t _ => show (ℓ ↦[S t]{fullShare} f : sProp 𝕄) ⊢ _ from by iintro H; iexists f; iexact H)
  iexact H'

/-- and back. -/
theorem put_back {T : Type} [Fintype T] [DecidableEq T] (t₀ : T) (ℓ : Loc nD τ sig) (S : T → Finset (Idx ℓ)) (hd : ∀ t t', t ≠ t' → Disjoint (S t) (S t'))
    (hc : ∀ i, ∃ t, i ∈ S t) :
    (bigSep Finset.univ fun t => iprop(∃ f : Buf (Elt F) ℓ, ℓ ↦[S t]{fullShare} f) : sProp 𝕄) ⊢ iprop(∃ f : Buf (Elt F) ℓ, ℓ ↦{fullShare} f) := by
  have hu : (Finset.univ : Finset T).biUnion S = Finset.univ := by
    ext i; obtain ⟨t, ht⟩ := hc i
    exact ⟨fun _ => Finset.mem_univ _, fun _ => Finset.mem_biUnion.mpr ⟨t, Finset.mem_univ _, ht⟩⟩
  iintro H
  ihave H' := (BI.bigSep_exists_pi Finset.univ (fun (t : T) (f : Buf (Elt F) ℓ) => (ℓ ↦[S t]{fullShare} f : sProp 𝕄))) $$ H
  icases H' with ⟨%fs, H⟩
  ihave H' := (pointsTo_biUnion_join (Val := Elt F) (Ix := Unit) (Name := ℕ) (U := UU) (Lvl := ℕ) (ℓ := ℓ) (q := fullShare) Finset.univ S fs (fs t₀)
    fun t _ t' _ => hd t t') $$ H
  icases H' with ⟨%g, -, H⟩
  rw [hu]
  iexists g; iexact H

/-- Two disjoint parts held at some contents are their union so held. -/
theorem two_parts (ℓ : Loc nD τ sig) {I J S : Finset (Idx ℓ)} (hd : Disjoint I J) (hS : S = I ∪ J) :
    iprop((∃ f : Buf (Elt F) ℓ, ℓ ↦[I]{fullShare} f) ∗ (∃ f : Buf (Elt F) ℓ, ℓ ↦[J]{fullShare} f)) ⊢ (iprop(∃ f : Buf (Elt F) ℓ, ℓ ↦[S]{fullShare} f) : sProp 𝕄) := by
  subst hS
  iintro ⟨⟨%f, H⟩, ⟨%g, H'⟩⟩
  iexists (J.piecewise g f)
  iapply (pointsTo_join hd)
  iframe ∗

/-! ## The pieces of these two -/

theorem mem_cmR (l : Fin 2) (s : Fin 4) (j : Fin 2) (i : S2x4x128x4096.Idx) :
    i ∈ (cmR l s j).set ↔ (i 0).val = l.val ∧ (i 1).val = s.val ∧ (i 2).val / 64 = j.val := by
  have h3 : (i 3).val < 4096 := (i 3).isLt
  rw [Rect.mem_set_unit]
  simp [Fin.forall_fin_succ]
  omega
theorem mem_slotR (l : Fin 2) (i : S2x4x128x4096.Idx) : i ∈ (slotR l).set ↔ (i 0).val = l.val ∧ (i 1).val = 0 := by
  have h2 : (i 2).val < 128 := (i 2).isLt
  have h3 : (i 3).val < 4096 := (i 3).isLt
  rw [Rect.mem_set_unit]
  simp [Fin.forall_fin_succ]
  omega
theorem mem_scR (o j : Fin 2) (i : S2x128x4096.Idx) : i ∈ (scR o j).set ↔ (i 0).val = o.val ∧ (i 1).val / 64 = j.val := by
  have h2 : (i 2).val < 4096 := (i 2).isLt
  rw [Rect.mem_set_unit]
  simp [Fin.forall_fin_succ]
  omega
theorem mem_cutR (i : S2x128x4096.Idx) : i ∈ cutR.set ↔ (i 0).val = 0 := by
  have h1 : (i 1).val < 128 := (i 1).isLt
  have h2 : (i 2).val < 4096 := (i 2).isLt
  rw [Rect.mem_set_unit]
  simp [Fin.forall_fin_succ]
  omega

/-- The sixteen pieces of the links' buffer and the four of the chord's. -/
def cmS (t : Fin 2 × Fin 4 × Fin 2) : Finset S2x4x128x4096.Idx := (cmR t.1 t.2.1 t.2.2).set
def scS (t : Fin 2 × Fin 2) : Finset S2x128x4096.Idx := (scR t.1 t.2).set

theorem cmS_disjoint (t t' : Fin 2 × Fin 4 × Fin 2) (h : t ≠ t') : Disjoint (cmS t) (cmS t') := by
  refine Finset.disjoint_left.mpr fun i hi hi' => h ?_
  obtain ⟨l, s, j⟩ := t; obtain ⟨l', s', j'⟩ := t'
  have a := (mem_cmR l s j i).mp hi; have b := (mem_cmR l' s' j' i).mp hi'
  exact Prod.ext (Fin.ext (a.1.symm.trans b.1)) (Prod.ext (Fin.ext (a.2.1.symm.trans b.2.1)) (Fin.ext (a.2.2.symm.trans b.2.2)))
theorem cmS_cover (i : S2x4x128x4096.Idx) : ∃ t, i ∈ cmS t :=
  ⟨(⟨(i 0).val, (i 0).isLt⟩, ⟨(i 1).val, (i 1).isLt⟩, ⟨(i 2).val / 64, by have h : (i 2).val < 128 := (i 2).isLt; omega⟩), (mem_cmR _ _ _ i).mpr ⟨rfl, rfl, rfl⟩⟩
theorem scS_disjoint (t t' : Fin 2 × Fin 2) (h : t ≠ t') : Disjoint (scS t) (scS t') := by
  refine Finset.disjoint_left.mpr fun i hi hi' => h ?_
  obtain ⟨o, j⟩ := t; obtain ⟨o', j'⟩ := t'
  have a := (mem_scR o j i).mp hi; have b := (mem_scR o' j' i).mp hi'
  exact Prod.ext (Fin.ext (a.1.symm.trans b.1)) (Fin.ext (a.2.symm.trans b.2))
theorem scS_cover (i : S2x128x4096.Idx) : ∃ t, i ∈ scS t :=
  ⟨(⟨(i 0).val, (i 0).isLt⟩, ⟨(i 1).val / 64, by have h : (i 1).val < 128 := (i 1).isLt; omega⟩), (mem_scR _ _ i).mpr ⟨rfl, rfl⟩⟩

/-- A piece held at some contents, named by its elements. -/
theorem any_cm (c : Dev nD) (l : Fin 2) (s : Fin 4) (j : Fin 2) :
    anyAt c (cm l s j) = (iprop(∃ f : Buf (Elt F) ((c : Thread nD τ).loc cc0_scratch0), ((c : Thread nD τ).loc cc0_scratch0) ↦[cmS (l, s, j)]{fullShare} f) : sProp 𝕄) := by
  unfold anyAt
  rw [show (cm l s j).view.set = cmS (l, s, j) from (View.set_reshape _ _).trans (View.set_slice_whole cc0_scratch0 (cmR l s j))]
theorem any_sc (c : Dev nD) (o j : Fin 2) :
    anyAt c (sc o j) = (iprop(∃ f : Buf (Elt F) ((c : Thread nD τ).loc cc0_scratch1), ((c : Thread nD τ).loc cc0_scratch1) ↦[scS (o, j)]{fullShare} f) : sProp 𝕄) := by
  unfold anyAt
  rw [show (sc o j).view.set = scS (o, j) from (View.set_reshape _ _).trans (View.set_slice_whole cc0_scratch1 (scR o j))]

/-- The two halves of a first slot are the slot. -/
theorem slot_of (c : Dev nD) (l : Fin 2) : iprop(anyAt c (cm l 0 0) ∗ anyAt c (cm l 0 1)) ⊢ (someAt commM (slotR l) c : sProp 𝕄) := by
  rw [any_cm, any_cm]
  unfold someAt
  rw [View.set_slice_whole]
  refine two_parts _ (cmS_disjoint _ _ (by simp)) ?_
  ext i
  rw [Finset.mem_union]
  unfold cmS
  rw [mem_cmR, mem_cmR, mem_slotR]
  have h2 : (i 2).val < 128 := (i 2).isLt
  simp
  omega
theorem cut_of (c : Dev nD) : iprop(anyAt c (sc 0 0) ∗ anyAt c (sc 0 1)) ⊢ (someAt cutM cutR c : sProp 𝕄) := by
  rw [any_sc, any_sc]
  unfold someAt
  rw [View.set_slice_whole]
  refine two_parts _ (scS_disjoint _ _ (by simp)) ?_
  ext i
  rw [Finset.mem_union]
  unfold scS
  rw [mem_scR, mem_scR, mem_cutR]
  have h1 : (i 1).val < 128 := (i 1).isLt
  simp
  omega

/-- The links' buffer piece by piece, and the chord's. -/
theorem all_cm (Φ : Fin 2 × Fin 4 × Fin 2 → sProp 𝕄) : bigSep Finset.univ Φ
    = iprop(Φ (0, 0, 0) ∗ Φ (0, 0, 1) ∗ Φ (0, 1, 0) ∗ Φ (0, 1, 1) ∗ Φ (0, 2, 0) ∗ Φ (0, 2, 1) ∗ Φ (0, 3, 0) ∗ Φ (0, 3, 1)
      ∗ Φ (1, 0, 0) ∗ Φ (1, 0, 1) ∗ Φ (1, 1, 0) ∗ Φ (1, 1, 1) ∗ Φ (1, 2, 0) ∗ Φ (1, 2, 1) ∗ Φ (1, 3, 0) ∗ Φ (1, 3, 1)) :=
  (bigSep_univ_eq_bigSepL [(0, 0, 0), (0, 0, 1), (0, 1, 0), (0, 1, 1), (0, 2, 0), (0, 2, 1), (0, 3, 0), (0, 3, 1),
    (1, 0, 0), (1, 0, 1), (1, 1, 0), (1, 1, 1), (1, 2, 0), (1, 2, 1), (1, 3, 0), (1, 3, 1)] (by decide) (by decide) Φ).trans
    (by simp only [bigSepL_cons_cons, bigSepL_singleton]; rfl)
theorem all_sc (Φ : Fin 2 × Fin 2 → sProp 𝕄) : bigSep Finset.univ Φ = iprop(Φ (0, 0) ∗ Φ (0, 1) ∗ Φ (1, 0) ∗ Φ (1, 1)) :=
  (bigSep_univ_eq_bigSepL [(0, 0), (0, 1), (1, 0), (1, 1)] (by decide) (by decide) Φ).trans
    (by simp only [bigSepL_cons_cons, bigSepL_singleton]; rfl)

/-- A device's two communication buffers at some contents. -/
def bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- They are the slots the body fills and the pieces its neighbours write. -/
theorem bufs_open (c : Dev nD) : (bufs c : sProp 𝕄)
    ⊢ iprop((someAt commM (slotR 0) c ∗ someAt commM (slotR 1) c ∗ someAt cutM cutR c) ∗ land c 0 ∗ land c 1 ∗ landC c) := by
  have h0 := cut_up (F := F) ((c : Thread nD τ).loc cc0_scratch0) cmS cmS_disjoint cmS_cover
  have h1 := cut_up (F := F) ((c : Thread nD τ).loc cc0_scratch1) scS scS_disjoint scS_cover
  rw [all_cm] at h0
  rw [all_sc] at h1
  simp only [← any_cm, ← any_sc] at h0 h1
  unfold bufs
  iintro ⟨H, H'⟩
  ihave H := h0 $$ H
  ihave H' := h1 $$ H'
  icases H with ⟨A00, A01, A10, A11, A20, A21, A30, A31, B00, B01, B10, B11, B20, B21, B30, B31⟩
  icases H' with ⟨C00, C01, C10, C11⟩
  ihave A := (slot_of c 0) $$ [A00 A01]
  · iframe ∗
  ihave B := (slot_of c 1) $$ [B00 B01]
  · iframe ∗
  ihave C := (cut_of c) $$ [C00 C01]
  · iframe ∗
  unfold land landC
  iframe ∗

/-- A piece at given contents is the piece at some contents. -/
theorem any_of_at (c : Dev nD) (M : Memref sig .tc .vmem S64x4096 .f32) (X : FVec F S64x4096 .f32) : (at' c M X : sProp 𝕄) ⊢ anyAt c M := by
  unfold at' anyAt owns
  iintro ⟨%f, -, H⟩; iexists f; iexact H

/-- Every piece back, the two buffers are whole. -/
theorem bufs_close (c : Dev nD) :
    iprop(bigSep Finset.univ (fun t : Xf => Src m ρ c t) ∗ Dst m ρ c (.inl (0, 2, 0)) ∗ Dst m ρ c (.inl (0, 2, 1)) ∗ Dst m ρ c (.inl (1, 2, 0))
      ∗ Dst m ρ c (.inl (1, 2, 1)) ∗ Dst m ρ c (.inr 0) ∗ Dst m ρ c (.inr 1)) ⊢ (bufs c : sProp 𝕄) := by
  have hS : (bigSep Finset.univ (fun t : Xf => Src m ρ c t) : sProp 𝕄) ⊢ bigSep Finset.univ (fun t : Xf => anyAt c (srcM t)) :=
    bigSep_mono fun t _ => any_of_at c _ _
  have hD (t : Xf) : (Dst m ρ c t : sProp 𝕄) ⊢ anyAt c (dstM t) := any_of_at c _ _
  rw [all_xf (fun t : Xf => anyAt c (srcM t))] at hS
  refine (BIClass.sep_mono hS (BIClass.sep_mono (hD _) (BIClass.sep_mono (hD _) (BIClass.sep_mono (hD _) (BIClass.sep_mono (hD _) (BIClass.sep_mono (hD _) (hD _))))))).trans ?_
  show iprop((anyAt c (cm 0 0 0) ∗ anyAt c (cm 0 0 1) ∗ anyAt c (cm 0 1 0) ∗ anyAt c (cm 0 1 1) ∗ anyAt c (cm 0 2 0) ∗ anyAt c (cm 0 2 1)
      ∗ anyAt c (cm 1 0 0) ∗ anyAt c (cm 1 0 1) ∗ anyAt c (cm 1 1 0) ∗ anyAt c (cm 1 1 1) ∗ anyAt c (cm 1 2 0) ∗ anyAt c (cm 1 2 1)
      ∗ anyAt c (sc 0 0) ∗ anyAt c (sc 0 1))
      ∗ anyAt c (cm 0 3 0) ∗ anyAt c (cm 0 3 1) ∗ anyAt c (cm 1 3 0) ∗ anyAt c (cm 1 3 1) ∗ anyAt c (sc 1 0) ∗ anyAt c (sc 1 1)) ⊢ bufs c
  have h0 := put_back (F := F) (0, 0, 0) ((c : Thread nD τ).loc cc0_scratch0) cmS cmS_disjoint cmS_cover
  have h1 := put_back (F := F) (0, 0) ((c : Thread nD τ).loc cc0_scratch1) scS scS_disjoint scS_cover
  rw [all_cm] at h0
  rw [all_sc] at h1
  simp only [← any_cm, ← any_sc] at h0 h1
  unfold bufs
  iintro ⟨⟨A00, A01, A10, A11, A20, A21, B00, B01, B10, B11, B20, B21, C00, C01⟩, A30, A31, B30, B31, C10, C11⟩
  isplitl [A00 A01 A10 A11 A20 A21 A30 A31 B00 B01 B10 B11 B20 B21 B30 B31]
  · iapply h0; iframe ∗
  · iapply h1; iframe ∗

end Cert.KernelIdeal.RS
end
-- ==== Proof.Start.lean ====
/- What a device starts with and ends with, and the body, from one to the other, as the pipeline's obligation. -/
module

public import proofs.«01_k».proof.Proof.Bufs

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The tokens of the payments device `c` makes: its signals, and its transfers' two each. -/
def payToks (c : Dev nD) : sProp 𝕄 :=
  iprop(bigSep Finset.univ (fun d : Fin 3 => dutyTok ER (barCell (bn d c)) 0 d)
    ∗ bigSep Finset.univ (fun t : Xf => dutyTok ER (sendCell c t) 0 0)
    ∗ bigSep Finset.univ (fun t : Xf => dutyTok ER (recvCell (nb (lk t) c) t) 0 0))
/-- Its cells' positions. -/
def spots (c : Dev nD) : sProp 𝕄 := bigSep Finset.univ fun k : Ck => atPos ER (kcell (c, k)) 0 ∅ 0
/-- The credit its neighbours owe its cells. -/
def credit (c : Dev nD) : sProp 𝕄 :=
  iprop(cred (tallyAt (barCell c) () 3) ∗ bigSep Finset.univ fun t : Xf => cred (tallyAt (recvCell c t) () N))

/-- All of it, with the records at some names. -/
def start (c : Dev nD) : sProp 𝕄 := iprop((∃ K, Env m ρ K) ∗ spots c ∗ payToks c ∗ credit c)
def Φ₀ (c : Dev nD) : sProp 𝕄 := iprop(start m ρ c ∗ bufs c)
/-- What it ends with: its cells at zero and its buffers. -/
def Φ₁ (c : Dev nD) : sProp 𝕄 := iprop(Zero c none ∗ bigSep Finset.univ (fun t : Xf => iprop(Zs c t ∗ Zr c t)) ∗ bufs c)

/-- The result on device `c`. -/
def outAt (c : Dev nD) : FVec F S128x4096 .f32 := stack (outH m ρ c 0) (outH m ρ c 1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => ystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => Ow c dues
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A staging buffer at given contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A conjunction over a device's cells: the barrier's, the send sides', the receive sides'. -/
theorem by_ck (Φ : Ck → sProp 𝕄) : bigSep Finset.univ Φ
    = iprop(Φ none ∗ bigSep Finset.univ (fun t : Xf => Φ (some (false, t))) ∗ bigSep Finset.univ (fun t : Xf => Φ (some (true, t)))) := by
  have hb (Ψ : Bool → sProp 𝕄) : bigSep Finset.univ Ψ = iprop(Ψ false ∗ Ψ true) :=
    (bigSep_univ_eq_bigSepL [false, true] (by decide) (by decide) Ψ).trans (by simp only [bigSepL_cons_cons, bigSepL_singleton]; rfl)
  have hp (Ψ : PUnit.{1} → sProp 𝕄) : bigSep Finset.univ Ψ = Ψ ⟨⟩ :=
    (bigSep_univ_eq_bigSepL [⟨⟩] (by decide) (by decide) Ψ).trans (by simp only [bigSepL_singleton])
  rw [bigSep_univ_equiv (Equiv.optionEquivSumPUnit (Bool × Xf)).symm, BI.bigSep_univ_sum, BI.bigSep_univ_prod, hb, hp]
  have hc (A B C : sProp 𝕄) : iprop((A ∗ B) ∗ C) = iprop(C ∗ A ∗ B) :=
    BI.Entails.antisymm (show iprop((A ∗ B) ∗ C) ⊢ iprop(C ∗ A ∗ B) from by iintro ⟨⟨H, H'⟩, H''⟩; iframe ∗)
      (show iprop(C ∗ A ∗ B) ⊢ iprop((A ∗ B) ∗ C) from by iintro ⟨H, H', H''⟩; iframe ∗)
  exact hc _ _ _

/-- A conjunction over the three neighbours. -/
theorem by_three (Φ : Fin 3 → sProp 𝕄) : bigSep Finset.univ Φ = iprop(Φ 0 ∗ Φ 1 ∗ Φ 2) :=
  (bigSep_univ_eq_bigSepL [0, 1, 2] (by decide) (by decide) Φ).trans (by simp only [bigSepL_cons_cons, bigSepL_singleton]; rfl)

/-- Started so, with its buffers and its staged operands, a device has what the body takes. -/
theorem body_start (c : Dev nD) (f : cc0_stg2_0.ty.Contents (Elt F)) :
    iprop(spots c ∗ payToks c ∗ credit c ∗ bufs c ∗ xPts m ρ c ∗ yPts m ρ c ∗ oPts c f ∗ Owes c 0) ⊢ bodyIn m ρ c f := by
  unfold spots payToks credit bodyIn Sig
  rw [by_ck, by_three]
  have hS : (bigSep Finset.univ (fun t : Xf => Snd c t) : sProp 𝕄) = iprop(bigSep Finset.univ (fun t : Xf => atPos ER (sendCell c t) 0 ∅ 0)
      ∗ bigSep Finset.univ (fun t : Xf => dutyTok ER (sendCell c t) 0 0) ∗ bigSep Finset.univ (fun t : Xf => dutyTok ER (recvCell (nb (lk t) c) t) 0 0)) := by
    unfold Snd; rw [bigSep_sep', bigSep_sep']
  have hR : (bigSep Finset.univ (fun t : Xf => Rcv c t) : sProp 𝕄) = iprop(bigSep Finset.univ (fun t : Xf => atPos ER (recvCell c t) 0 ∅ 0)
      ∗ bigSep Finset.univ (fun t : Xf => cred (tallyAt (recvCell c t) () N))) := by
    unfold Rcv; rw [bigSep_sep']
  have hP : (iprop(barPay (bn 0 c) 0 ∗ barPay (bn 1 c) 1 ∗ barPay (bn 2 c) 2) : sProp 𝕄) = iprop(land c 0 ∗ land c 1 ∗ landC c) := by
    unfold barPay; rw [nb_bn, nb_bn, nb_bn]
  rw [hS, hR]
  iintro ⟨⟨HB, HS, HR⟩, ⟨⟨D0, D1, D2⟩, TS, TR⟩, ⟨CB, CR⟩, Hb, Hx, Hy, Ho, HO⟩
  ihave Hb := (bufs_open c) $$ Hb
  icases Hb with ⟨⟨A, B, C⟩, HL⟩
  ihave HL := (Entails.of_eq hP.symm) $$ HL
  icases HL with ⟨L0, L1, L2⟩
  iframe ∗

/-- The body, from one to the other, as the pipeline asks for it. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xstg m ρ c) ∗ stg c cc0_stg1_0 (ystg m ρ c) ∗ stg c cc0_stg2_0 (outAt m ρ c))

theorem body_end (c : Dev nD) : bodyOut m ρ c ⊢ bodyPost m ρ c := by
  unfold bodyOut bodyPost Φ₁ Dat.owesAt Pipeline.owesWithin Owes
  rw [show (dats m ρ 0 c).owed t₀.succ = Ow c (dues.drop 17) from rfl]
  iintro ⟨Hz, HZ, HS, ⟨D1, D2, D3, D4, D5, D6⟩, ⟨Hx, Hy, Ho⟩, ⟨%W, HO⟩⟩
  ihave Hb := (bufs_close m ρ c) $$ [HS D1 D2 D3 D4 D5 D6]
  · iframe ∗
  isplitl [Hz HZ Hb]
  · iframe ∗
  isplitl [HO]
  · iexists W
    isplitr; · ipureintro; exact fun _ _ => Or.inl trivial
    iexact HO
  isplitl [Hx]
  · iexists _; isplitr; · (ipureintro; rfl)
    unfold xPts; iexact Hx
  isplitl [Hy]
  · iexists _; isplitr; · (ipureintro; rfl)
    unfold yPts; iexact Hy
  iexists _; isplitr; · (ipureintro; rfl)
  unfold oPts; iexact Ho

theorem sound_body (c : Dev nD) : bodyPre m ρ c ⊢ run c (onBufs cc0_body) (fun _ => bodyPost m ρ c) := by
  unfold bodyPre Φ₀ start
  iintro ⟨⟨⟨⟨%K, #HE⟩, Hsp, Htk, Hcr⟩, Hb⟩, Ho, ⟨%d0, %g0, %hg0, Hx⟩, ⟨%d1, %g1, %hg1, Hy⟩, ⟨%d2, %g2, %hg2, Hout⟩⟩
  have hx : g0 = xstg m ρ c := by rw [hg0]; unfold Dat.before; rw [if_pos (fetch0_0 t₀)]; rfl
  have hy : g1 = ystg m ρ c := by rw [hg1]; unfold Dat.before; rw [if_pos (fetch0_1 t₀)]; rfl
  subst hx hy
  unfold Dat.owesAt Pipeline.owesWithin
  icases Ho with ⟨%W, %hW, HO⟩
  ihave HO := (show owes (c : Thread nD τ) ((dats m ρ 0 c).owed t₀.castSucc) W ⊢ Owes c 0 from by unfold Owes; iintro H; iexists W; iexact H) $$ HO
  ihave Hx := (show (((c : Thread nD τ).loc cc0_stg0_0) ↦{fullShare} xstg m ρ c : sProp 𝕄) ⊢ xPts m ρ c from .rfl) $$ Hx
  ihave Hy := (show (((c : Thread nD τ).loc cc0_stg1_0) ↦{fullShare} ystg m ρ c : sProp 𝕄) ⊢ yPts m ρ c from .rfl) $$ Hy
  ihave Hout := (show (((c : Thread nD τ).loc cc0_stg2_0) ↦{fullShare} g2 : sProp 𝕄) ⊢ oPts c g2 from .rfl) $$ Hout
  ihave Hin := (body_start m ρ c g2) $$ [Hsp Htk Hcr Hb HO Hx Hy Hout]
  · iframe ∗
  iapply (body_run m ρ K c (Kt := fun _ => bodyPost m ρ c) g2) $$ [Hin]
  · iframe # ∗
  iintro H
  ihave H := (body_end m ρ c) $$ H
  iexact H

end Cert.KernelIdeal.RS
end
-- ==== Proof.Launch.lean ====
/- The launch: the protocol's ghost state dealt to the devices, and the run of the whole program over any float values. -/
module

public import proofs.«01_k».proof.Proof.Start
public import Idealize.ShloMosaic.Lib.Pipeline.CollectiveSegs

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline's obligation -/

theorem bigSep_win (Φ : Fin cfg0.W → sProp 𝕄) : bigSep Finset.univ Φ = iprop(Φ (0 : Fin 3) ∗ Φ (1 : Fin 3) ∗ Φ (2 : Fin 3)) := Gen.bigSep_W0 Φ

theorem body_obligation (c : Dev nD) : BodyObligation (dats (F := F) m ρ 0 c) (defs₀ (F := F)) 𝒱₀ () Set.univ := fun t => by
  rw [fin_N t]
  rw [bigSep_win, bigSep_win]
  simp only [owns_whole_eq]
  exact sound_body m ρ c

/-! ## The protocol's cells and tokens -/

/-- A device's own semaphores: the two of each transfer. -/
def osem (k : Bool × Xf) : SemLoc sig := csem (some k)
theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_injective (congrArg Prod.snd h)
  rw [h1, h2]
def rsCells : Finset (GSem nD τ sig) := Finset.univ.map ⟨kcell, kcell_injective⟩

/-- Every duty of every device's cells: a barrier's three, a transfer's one at either end. -/
def tokOf (x : Dev nD × (Fin 3 ⊕ (Bool × Xf))) : GSem nD τ sig × ℕ × Fin 3 := match x.2 with
  | .inl d => (barCell x.1, 0, d)
  | .inr k => (kcell (x.1, some k), 0, 0)
theorem tokOf_injective : Function.Injective tokOf := by
  rintro ⟨c, j⟩ ⟨c', j'⟩ h
  have hk := congrArg Prod.fst h
  have hd := congrArg (fun x : GSem nD τ sig × ℕ × Fin 3 => x.2.2) h
  rcases j with d | k <;> rcases j' with d' | k' <;> have e := kcell_injective hk
  · have e1 := congrArg Prod.fst e
    have e2 : d = d' := hd
    dsimp only at e1; rw [e1, e2]
  · cases congrArg Prod.snd e
  · cases congrArg Prod.snd e
  · have e1 := congrArg Prod.fst e
    have e2 := Option.some.inj (congrArg Prod.snd e)
    dsimp only at e1; rw [e1, e2]
def rsToks : Finset (GSem nD τ sig × ℕ × Fin 3) := Finset.univ.map ⟨tokOf, tokOf_injective⟩

def u₀ : UU := (initOf (Pipeline.cells cfgs Gen.cellOf_inj) (Pipeline.launchToks cfgs Gen.cellOf_inj), initOf rsCells rsToks)

/-- The tokens of device `c`'s own cells. -/
def toks (c : Dev nD) : sProp 𝕄 :=
  iprop(bigSep Finset.univ (fun d : Fin 3 => dutyTok ER (barCell c) 0 d) ∗ bigSep Finset.univ (fun k : Bool × Xf => dutyTok ER (kcell (c, some k)) 0 0))

/-- What the launch deals device `c`. -/
def G (c : Dev nD) : sProp 𝕄 :=
  iprop((bigSep Finset.univ fun k : Ck => roundState ER (Rd m ρ) (kcell (c, k)) 0)
    ∗ (bigSep Finset.univ fun k : Ck => reached ER (kcell (c, k)) 0) ∗ spots c ∗ toks c)
/-- What opening the cells everywhere makes of it. -/
def G' (c : Dev nD) : sProp 𝕄 := iprop((∃ K, records m ρ K) ∗ spots c ∗ payToks c)

theorem fund_rs : BI.own (ER (initOf rsCells rsToks)) ⊢ (|==> bigSep Finset.univ (G m ρ) : sProp 𝕄) := by
  have hX (Φ : GSem nD τ sig → sProp 𝕄) : bigSep rsCells Φ = bigSep Finset.univ fun c : Dev nD => bigSep Finset.univ fun k : Ck => Φ (kcell (c, k)) := by
    unfold rsCells; rw [bigSep_map, bigSep_univ_prod]; rfl
  have hT : bigSep rsToks (fun x => (dutyTok ER x.1 x.2.1 x.2.2 : sProp 𝕄)) = bigSep Finset.univ fun c : Dev nD => toks c := by
    unfold rsToks; rw [bigSep_map, bigSep_univ_prod]
    exact bigSep_congr fun c _ => by unfold toks; rw [BI.bigSep_univ_sum]; rfl
  have hG : (bigSep Finset.univ (G m ρ) : sProp 𝕄) = iprop((bigSep Finset.univ fun c => bigSep Finset.univ fun k : Ck => roundState ER (Rd m ρ) (kcell (c, k)) 0)
      ∗ (bigSep Finset.univ fun c => bigSep Finset.univ fun k : Ck => reached ER (kcell (c, k)) 0) ∗ (bigSep Finset.univ fun c => spots c)
      ∗ bigSep Finset.univ fun c => toks c) := by
    unfold G; rw [bigSep_sep', bigSep_sep', bigSep_sep']
  rw [hG]
  iintro HX
  imod (Rounds.fund ER (Rd m ρ) rsCells rsToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold spots
  iframe ∗

/-! ## The cells opened and the tokens dealt -/

/-- A device's own semaphores at zero are its transfers' two sides. -/
theorem ownSems0_eq (c : Dev nD) : (Pipeline.ownSems0 (Ix := Unit) (Name := ℕ) (U := UU) (Lvl := ℕ) (Val := Elt F) (τ := τ) osem c : sProp 𝕄)
    = bigSep Finset.univ fun k : Bool × Xf => Zero c (some k) := by
  unfold Pipeline.ownSems0 Zero; rfl
/-- The barrier semaphore is the launch's one other. -/
theorem unscopedSems0_eq (c : Dev nD) : (unscopedSems0 c : sProp 𝕄) = Zero c none := by
  unfold unscopedSems0; rw [bigSep_eq_bigSepL_of_eq [SemLoc.reg barS] (by decide) (by decide)]; rfl

theorem by_bool (Ψ : Bool × Xf → sProp 𝕄) : bigSep Finset.univ Ψ
    = iprop(bigSep Finset.univ (fun t : Xf => Ψ (false, t)) ∗ bigSep Finset.univ (fun t : Xf => Ψ (true, t))) := by
  rw [BI.bigSep_univ_prod]
  exact (bigSep_univ_eq_bigSepL [false, true] (by decide) (by decide) _).trans (by simp only [bigSepL_cons_cons, bigSepL_singleton]; rfl)

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [ownSems0_eq, unscopedSems0_eq, by_ck, by_bool]
  unfold Zero
  iintro ⟨⟨HS, HV⟩, HB⟩
  iframe ∗

/-- A device's cells, opened. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k : Ck => reached ER (kcell (c, k)) 0) ∗ spots c ∗ toks c) := by
  unfold G
  iintro ⟨Hos, Hus, Hst, Hr, Hat, Htok⟩
  ihave Hv := (sems0_eq (F := F) c) $$ [Hos Hus]
  · iframe ∗
  imod (show iprop((bigSep Finset.univ fun k : Ck => semVal (kcell (c, k)) 0) ∗ bigSep Finset.univ fun k : Ck => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · iframe ∗
  imodintro
  iframe ∗

/-- A conjunction over every device and neighbour, each term taken at the neighbour instead. -/
theorem deal_three (Φ : Dev nD → Fin 3 → sProp 𝕄) :
    (bigSep Finset.univ fun c : Dev nD => bigSep Finset.univ fun d : Fin 3 => Φ c d) = bigSep Finset.univ fun c : Dev nD => bigSep Finset.univ fun d : Fin 3 => Φ (bn d c) d := by
  rw [← bigSep_univ_prod (fun x : Dev nD × Fin 3 => Φ x.1 x.2), ← bigSep_univ_prod (fun x : Dev nD × Fin 3 => Φ (bn x.2 x.1) x.2)]
  exact bigSep_univ_equiv (⟨fun x => (bn x.2 x.1, x.2), fun x => (nb x.2 x.1, x.2), fun x => by simp only [nb_bn], fun x => by simp only [bn_nb]⟩ : Dev nD × Fin 3 ≃ Dev nD × Fin 3)
    (fun x : Dev nD × Fin 3 => Φ x.1 x.2)
/-- A conjunction over every device and transfer, each term taken at the device the transfer goes to. -/
theorem deal_xf (Φ : Dev nD → Xf → sProp 𝕄) :
    (bigSep Finset.univ fun c : Dev nD => bigSep Finset.univ fun t : Xf => Φ c t) = bigSep Finset.univ fun c : Dev nD => bigSep Finset.univ fun t : Xf => Φ (nb (lk t) c) t := by
  rw [← bigSep_univ_prod (fun x : Dev nD × Xf => Φ x.1 x.2), ← bigSep_univ_prod (fun x : Dev nD × Xf => Φ (nb (lk x.2) x.1) x.2)]
  exact bigSep_univ_equiv (⟨fun x => (nb (lk x.2) x.1, x.2), fun x => (bn (lk x.2) x.1, x.2), fun x => by simp only [bn_nb], fun x => by simp only [nb_bn]⟩ : Dev nD × Xf ≃ Dev nD × Xf)
    (fun x : Dev nD × Xf => Φ x.1 x.2)

/-- The tokens go from the devices whose cells they are of to the devices that pay. -/
theorem toks_around : (bigSep Finset.univ fun c : Dev nD => (toks c : sProp 𝕄)) ⊢ bigSep Finset.univ fun c : Dev nD => payToks c := by
  unfold toks payToks
  simp only [by_bool]
  rw [bigSep_sep', bigSep_sep', bigSep_sep', bigSep_sep', deal_three (fun c d => (dutyTok ER (barCell c) 0 d : sProp 𝕄)),
    deal_xf (fun c t => (dutyTok ER (kcell (c, some (true, t))) 0 0 : sProp 𝕄))]

theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k : Ck => reached ER (kcell (c, k)) 0) ∗ spots c ∗ toks c) : sProp 𝕄)
      ⊢ bigSep Finset.univ (G' m ρ) := by
  rw [bigSep_sep', bigSep_sep', bigSep_sep', ← bigSep_univ_prod (fun ck : Dev nD × Ck => iprop(∃ κ : ℕ, cellInv ER (Rd m ρ) κ (kcell ck))),
    ← bigSep_univ_prod (fun ck : Dev nD × Ck => (reached ER (kcell ck) 0 : sProp 𝕄))]
  have hsp : (iprop((bigSep Finset.univ fun c : Dev nD => spots c) ∗ bigSep Finset.univ fun c : Dev nD => payToks c) : sProp 𝕄)
      ⊢ bigSep Finset.univ fun c : Dev nD => iprop(spots c ∗ payToks c) := Entails.of_eq (bigSep_sep' _ _ _).symm
  iintro ⟨HI, #HR, Hat, Htok⟩
  ihave HK := (BI.bigSep_exists_pi Finset.univ (fun (ck : Dev nD × Ck) (κ : ℕ) => (cellInv ER (Rd m ρ) κ (kcell ck) : sProp 𝕄))) $$ HI
  icases HK with ⟨%K, #HI⟩
  ihave Htk := (toks_around (F := F)) $$ Htok
  ihave Hl := hsp $$ [Hat Htk]
  · iframe ∗
  iapply (with_all (R := records m ρ K) (Φ := fun c => iprop(spots c ∗ payToks c)) (Ψ := G' m ρ) fun c _ => show iprop(records m ρ K ∗ spots c ∗ payToks c) ⊢ G' m ρ c from by
    unfold G'; iintro ⟨#HR, Hs, Ht⟩; iframe ∗; iexists K; iexact HR)
  isplitr
  · unfold records; isplitl; · iexact HI
    iexact HR
  · iexact Hl

/-- Opening the cells on every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The device whose due of this kind goes to `c`. -/
def dueFrom (c : Dev nD) : Due → Dev nD
  | .inl d => nb d c
  | .inr t => bn (lk t) c
theorem dueTo_from (k : Due) (c : Dev nD) : dueTo (dueFrom c k) k = c := by
  rcases k with d | t
  · exact bn_nb d c
  · exact nb_bn (lk t) c
theorem dueFrom_to (k : Due) (c : Dev nD) : dueFrom (dueTo c k) k = c := by
  rcases k with d | t
  · exact nb_bn d c
  · exact bn_nb (lk t) c

/-- The credit of a list of dues, at the device they come to. -/
def credOf (c : Dev nD) : List Due → sProp 𝕄
  | [] => iprop(emp)
  | k :: ks => iprop(credOf c ks ∗ cred (tallyAt (kcell (c, dueCk k)) () (amt (dueCk k))))

theorem creds_of (c : Dev nD) (ks : List Due) : (Pipeline.launchCred (fun d => Ow d ks) c : sProp 𝕄) ⊢ credOf c ks := by
  induction ks with
  | nil => exact Entails.of_eq (Pipeline.launchCred_zero c)
  | cons k ks ih =>
    unfold Ow
    rw [Pipeline.launchCred_add (fun d => Ow d ks) (fun d => tallyAt (kcell (dueTo d k, dueCk k)) () (amt (dueCk k)))]
    exact BIClass.sep_mono ih (Pipeline.launchCred_tallyAt (csem (dueCk k)) (fun d => dueTo d k) (fun d => dueFrom d k) (dueTo_from k) (dueFrom_to k) () (amt (dueCk k)) c)

/-- All the dues: three units at the barrier and every transfer's at its receive side. -/
theorem creds (c : Dev nD) : (Pipeline.launchCred (fun d => Ow d dues) c : sProp 𝕄) ⊢ credit c := by
  refine (creds_of c dues).trans ?_
  have h3 : (cred (tallyAt (barCell c) () 3) : sProp 𝕄) = iprop((cred (tallyAt (barCell c) () 1) ∗ cred (tallyAt (barCell c) () 1)) ∗ cred (tallyAt (barCell c) () 1)) := by
    rw [← BI.Entails.antisymm (cred_add _ _).1 (cred_add _ _).2, ← BI.Entails.antisymm (cred_add _ _).1 (cred_add _ _).2, tallyAt_add, tallyAt_add]
  unfold credit
  rw [h3, all_xf]
  simp only [dues, credOf, dueCk, amt]
  iintro H
  icases H with ⟨⟨⟨⟨⟨⟨⟨⟨⟨⟨⟨⟨⟨⟨⟨⟨⟨-, H1⟩, H2⟩, H3⟩, H4⟩, H5⟩, H6⟩, H7⟩, H8⟩, H9⟩, H10⟩, H11⟩, H12⟩, H13⟩, H14⟩, H15⟩, H16⟩, H17⟩
  iframe ∗

/-! ## The launch's conditions -/

theorem start_intro (c : Dev nD) :
    iprop(Pipeline.unscopedRestP Pipeline.Prefetch.none cfg0.spec c (fun b => m ((c : Thread nD τ).loc b)) ∗ levAts L lv
        ∗ Pipeline.launchCred (fun d => Ow d dues) c ∗ prngReg c (ρ c) ∗ G' m ρ c)
      ⊢ |={Set.univ}=> iprop(start m ρ c ∗ emp) := by
  unfold start G' Env
  iintro ⟨-, Hlev, Hcr, -, ⟨⟨%K, HR⟩, Hs, Ht⟩⟩
  ihave Hc := (creds (F := F) c) $$ Hcr
  imodintro
  isplitl
  · isplitl [HR Hlev]
    · iexists K; iframe ∗
    iframe ∗
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = bufs c from Gen.scopedRest0_eq c]
  unfold Φ₀
  iintro ⟨Hs, -, Hb⟩
  iframe ∗

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = bufs c from Gen.scopedRest0_eq c,
    ownSems0_eq, unscopedSems0_eq, by_bool]
  unfold Φ₁
  rw [bigSep_sep']

/-- A staging buffer's semaphore is none of the protocol's, so it may be waited for at any time. -/
theorem stage_other (w : Fin 3) (s : Fin (spec0 w).nbuf) : ∀ k, csem k ≠ .dma ((spec0 w).sem s) := by
  revert w s; decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 dues (le_of_eq (lv_other _ (stage_other w s) ())) (by decide)
    · show _ ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with zero counters: every weakly fair execution of @main
    terminates, and every final state has each device's result array at the computed contents, its operands unchanged and
    every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () Gen.cellOf_inj (0 : Fin 1)
    Gen.winFacts0.to₀ ownSemFacts (Pipeline.PreFacts.none _) EP defs₀ 𝒱₀ m ρ main
    (hmain := fun _ => rfl)
    (hbody := body_obligation m ρ) (hne := fun w => by fin_cases w <;> exact Nat.succ_pos _) (harr := Gen.arr_whole0) (hstage := Gen.stage_whole0)
    (hshare := share_eq m ρ) (hdistinct := Gen.winFacts0.arr_inj)
    (O₀ := fun d => Ow d dues) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_rs m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- After the run the operands hold what they held. -/
theorem finalA_x (c : Dev nD) : finalA m ρ c (0 : Fin 3) = (s₀ m ρ).mem ((cfg0.win (0 : Fin 3)).arr.view.loc (c : Thread nD τ)) :=
  (dats (F := F) m ρ 0 c).arrAt_in (0 : Fin 3) rfl _
theorem finalA_y (c : Dev nD) : finalA m ρ c (1 : Fin 3) = (s₀ m ρ).mem ((cfg0.win (1 : Fin 3)).arr.view.loc (c : Thread nD τ)) :=
  (dats (F := F) m ρ 0 c).arrAt_in (1 : Fin 3) rfl _

end Cert.KernelIdeal.RS
end
-- ==== Proof.Value.lean ====
/- What the run computes, over the extended reals: a device's result is the sum over all eight devices of their parts, and
   a part is a block of rows of a product. -/
module

public import proofs.«01_k».proof.Proof.Launch
public import Idealize.ShloMosaic.Lib.Pointwise
public import Idealize.ShloMosaic.PureOps.Ideal

@[expose] public section

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-! ## Around the ring -/

/-- Two distances along the ring add up. -/
theorem tgt_tgt (c : Dev nD) (k k' : Fin 8) : tgt (tgt c k) k' = tgt c (k + k') := by revert c k k'; decide
/-- Distance nought is the device itself. -/
theorem tgt_zero (c : Dev nD) : tgt c 0 = c := by revert c; decide
/-- Neighbours have opposite parities. -/
theorem even_next (c : Dev nD) : even (tgt c 1) = !even c := by revert c; decide
theorem even_prev (c : Dev nD) : even (tgt c 7) = !even c := by revert c; decide
/-- The eight devices are those at the eight distances from any one of them. -/
theorem tgt_bijective (c : Dev nD) : Function.Bijective (tgt c) := by revert c; decide

/-- A sum over the devices, taken by distance from one of them. -/
theorem sum_around (c : Dev nD) (f : Dev nD → EReal) :
    ∑ e : Dev nD, f e = f c + f (tgt c 1) + f (tgt c 2) + f (tgt c 3) + f (tgt c 4) + f (tgt c 5) + f (tgt c 6) + f (tgt c 7) := by
  rw [← (Equiv.ofBijective (tgt c) (tgt_bijective c)).sum_comp f, Fin.sum_univ_eight]
  show f (tgt c 0) + _ + _ + _ + _ + _ + _ + _ = _
  rw [tgt_zero]; rfl

/-- Half of a device's result, at an index: every device's part, once. -/
theorem outH_apply (c : Dev nD) (j : Fin 2) (i : S64x4096.Idx) :
    outH m ρ c j i = ∑ e : Dev nD, (half j (part m ρ e c) i : EReal) := by
  rw [sum_around c]
  have e0 : outH m ρ c j i = ((vR2 m ρ (tgt c 7) j i + vL2 m ρ (tgt c 1) j i + half j (part m ρ c c) i : EReal)) := rfl
  have hC (d : Dev nD) : vC m ρ d j i = half j (part m ρ d (tgt d 4)) i := rfl
  have hR1 (d : Dev nD) : vR1 m ρ d j i = ((half j (part m ρ (tgt d 7) (tgt (tgt d 7) 3)) i + half j (part m ρ d (tgt d 2)) i : EReal)) := rfl
  have hL1 (d : Dev nD) : vL1 m ρ d j i = ((half j (part m ρ (tgt d 1) (tgt (tgt d 1) 5)) i + half j (part m ρ d (tgt d 6)) i : EReal)) := rfl
  rw [e0]
  cases h : even c
  · have hR : vR2 m ρ (tgt c 7) j i = (vR1 m ρ (tgt (tgt c 7) 7) j i + half j (part m ρ (tgt c 7) (tgt (tgt c 7) 1)) i : EReal) := by
      unfold vR2; rw [even_prev, h]; rfl
    have hL : vL2 m ρ (tgt c 1) j i = (vL1 m ρ (tgt (tgt c 1) 1) j i + half j (part m ρ (tgt c 1) (tgt (tgt c 1) 7)) i
        + vC m ρ (tgt (tgt c 1) 3) j i : EReal) := by
      unfold vL2 partner; rw [even_next, h]; rfl
    rw [hR, hL, hR1, hL1, hC]
    simp only [tgt_tgt, Fin.reduceAdd, Fin.isValue, tgt_zero]
    abel
  · have hR : vR2 m ρ (tgt c 7) j i = (vR1 m ρ (tgt (tgt c 7) 7) j i + half j (part m ρ (tgt c 7) (tgt (tgt c 7) 1)) i
        + vC m ρ (tgt (tgt c 7) 5) j i : EReal) := by
      unfold vR2 partner; rw [even_prev, h]; rfl
    have hL : vL2 m ρ (tgt c 1) j i = (vL1 m ρ (tgt (tgt c 1) 1) j i + half j (part m ρ (tgt c 1) (tgt (tgt c 1) 7)) i : EReal) := by
      unfold vL2; rw [even_next, h]; rfl
    rw [hR, hL, hR1, hL1, hC]
    simp only [tgt_tgt, Fin.reduceAdd, Fin.isValue, tgt_zero]
    abel

/-! ## A device's part, and its result -/

/-- Device `c`'s rows of the first operand, and of the second. -/
def opX (c : Dev nD) : Vec Ideal S1024x1024 .f32 := m ((c : Thread nD τ).loc main_arg0)
def opY (c : Dev nD) : Vec Ideal S1024x4096 .f32 := m ((c : Thread nD τ).loc main_arg1)

/-- The staged operands are the whole arrays. -/
theorem xstg_eq (c : Dev nD) : xstg m ρ c = opX m c :=
  Memref.read_access_unit_zero (Elt Ideal) main_arg0 (funext fun a => by fin_cases a <;> decide) (fun a => by fin_cases a <;> decide) _
theorem ystg_eq (c : Dev nD) : ystg m ρ c = opY m c :=
  Memref.read_access_unit_zero (Elt Ideal) main_arg1 (funext fun a => by fin_cases a <;> decide) (fun a => by fin_cases a <;> decide) _

/-- Column `128 e + r` among the 1024. -/
def col (e : Dev nD) (r : Fin 128) : Fin 1024 := ⟨128 * e.val + r.val, by have := e.isLt; have : e.val < 8 := e.isLt; omega⟩

/-- The block of columns a device reads for device `e`, at an index. -/
theorem xcols_apply (c e : Dev nD) (n : Fin 1024) (r : Fin 128) :
    xcols m ρ c e (ix2 n r) = opX m c (ix2 n (col e r)) := by
  unfold xcols
  rw [xstg_eq]
  refine congrArg (opX m c) (funext fun a => Fin.ext ?_)
  match a with
  | ⟨0, _⟩ => show 0 + 1 * n.val = n.val; omega
  | ⟨1, _⟩ => show 128 * e.val + 1 * r.val = 128 * e.val + r.val; omega

set_option maxRecDepth 16384 in
/-- Device `c`'s part of device `e`'s result is a product of columns of its two operands. -/
theorem part_apply (c e : Dev nD) (r : Fin 128) (l : Fin 4096) :
    part m ρ c e (ix2 r l) = ∑ n : Fin 1024, (opX m c (ix2 n (col e r)) * opY m c (ix2 n l) : EReal) := by
  unfold part
  rw [ystg_eq]
  have hx := fun n => xcols_apply m ρ c e n r
  generalize xcols m ρ c e = X at hx
  pointwise [k0_pay24]
  exact Finset.sum_congr rfl fun n _ => by rw [hx n]

set_option maxRecDepth 16384 in
/-- Device `c`'s result: at each index the sum of all devices' parts. -/
theorem outAt_apply (c : Dev nD) (r : Fin 128) (l : Fin 4096) :
    outAt m ρ c (ix2 r l) = ∑ e : Dev nD, (part m ρ e c (ix2 r l) : EReal) := by
  unfold outAt stack
  split_ifs with h
  · refine (outH_apply m ρ c 0 _).trans (Finset.sum_congr rfl fun e _ => ?_)
    exact congrArg (part m ρ e c) (funext fun a => Fin.ext (by
      match a with
      | ⟨0, _⟩ => show 0 + r.val = r.val; omega
      | ⟨1, _⟩ => show 0 + l.val = l.val; omega))
  · refine (outH_apply m ρ c 1 _).trans (Finset.sum_congr rfl fun e _ => ?_)
    have h' : ¬ r.val < 64 := h
    exact congrArg (part m ρ e c) (funext fun a => Fin.ext (by
      match a with
      | ⟨0, _⟩ => show 64 + (r.val - 64) = r.val; omega
      | ⟨1, _⟩ => show 0 + l.val = l.val; omega))

/-- After the run the result array holds it. -/
theorem finalA_out (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt Ideal) main_v1 (funext fun a => by fin_cases a <;> decide) (fun a => by fin_cases a <;> decide) _).symm.trans h

end Cert.KernelIdeal.RS
end
-- ==== Proof.Product.lean ====
/- The reference's product, read index by index, and cut into what the devices hold: a device's result is its block of rows. -/
module

public import proofs.«01_k».proof.Proof.Value
public import proofs.«01_k».proof.Proof.Gen.ReferenceIdeal

@[expose] public section

noncomputable section

namespace Cert.KernelIdeal.RS

open Cert.KernelIdeal Cert.KernelIdeal.Gen
open Idealize.ShloMosaic
open Idealize.ShloMosaic.TcCoe

/-- The whole result `xᵀ·y`, as the reference writes it. -/
def product (X : Vec Ideal Cert.ReferenceIdeal.S8192x1024 .f32) (Y : Vec Ideal Cert.ReferenceIdeal.S8192x4096 .f32) :
    Vec Ideal Cert.ReferenceIdeal.S1024x4096 .f32 :=
  Host.dotGeneral (F := Ideal) (φ₁ := .f32) (φ₂ := .f32) Cert.ReferenceIdeal.dot_S1024x8192_S8192x4096_S1024x4096_1_0_0_1_n_n none
    (transpose Cert.ReferenceIdeal.S1024x8192 [1, 0] X Cert.ReferenceIdeal.Gen.transposes_S8192x1024_S1024x8192_1_0) Y

set_option maxRecDepth 16384 in
/-- At an index: a sum over the 8192 rows. -/
theorem product_apply (X : Vec Ideal Cert.ReferenceIdeal.S8192x1024 .f32) (Y : Vec Ideal Cert.ReferenceIdeal.S8192x4096 .f32)
    (q : Fin 1024) (l : Fin 4096) :
    product X Y (ix2 q l) = ∑ n : Fin 8192, (X (ix2 n q) * Y (ix2 n l) : EReal) := by
  unfold product
  pointwise

/-- Row `1024 e + n` among the 8192. -/
def row (e : Dev nD) (n : Fin 1024) : Fin 8192 := ⟨e.val * 1024 + n.val, by have : e.val < 8 := e.isLt; omega⟩

/-- A sum over all rows is, over the devices, the sums over each one's rows. -/
theorem sum_rows (f : Fin 8192 → EReal) : ∑ n, f n = ∑ e : Dev nD, ∑ n : Fin 1024, f (row e n) := by
  have h := (finProdFinEquiv (m := 8) (n := 1024)).sum_comp f
  rw [Fintype.sum_prod_type] at h
  refine h.symm.trans (Finset.sum_congr rfl fun e _ => Finset.sum_congr rfl fun n _ => congrArg f (Fin.ext ?_))
  show n.val + 1024 * e.val = e.val * 1024 + n.val
  omega

variable (m : (ℓ : Loc nD τ sig) → Buf (Elt Ideal) ℓ) (ρ : Dev nD → PrngReg)

/-- Device `c`'s result is block `c` of the product of the arrays whose blocks the devices hold. -/
theorem outAt_block (X : Vec Ideal Cert.ReferenceIdeal.S8192x1024 .f32) (Y : Vec Ideal Cert.ReferenceIdeal.S8192x4096 .f32)
    (hx : ∀ e : Dev nD, opX m e = Layout.block ⟨2, ![1024, 1024]⟩ ⟨2, ![8192, 1024]⟩ 0 8 e X)
    (hy : ∀ e : Dev nD, opY m e = Layout.block ⟨2, ![1024, 4096]⟩ ⟨2, ![8192, 4096]⟩ 0 8 e Y) (c : Dev nD) :
    outAt m ρ c = Layout.block ⟨2, ![128, 4096]⟩ ⟨2, ![1024, 4096]⟩ 0 8 c (product X Y) := by
  funext i
  obtain ⟨r, l, rfl⟩ : ∃ (r : Fin 128) (l : Fin 4096), i = ix2 r l := ⟨_, _, eq_ix2 i⟩
  rw [Layout.block_apply]
  have hX (e : Dev nD) (n q : Fin 1024) : opX m e (ix2 n q) = X (ix2 (row e n) q) := by
    rw [hx e, Layout.block_apply]
    exact congrArg X (funext fun a => by match a with | ⟨0, _⟩ => rfl | ⟨1, _⟩ => rfl)
  have hY (e : Dev nD) (n : Fin 1024) (k : Fin 4096) : opY m e (ix2 n k) = Y (ix2 (row e n) k) := by
    rw [hy e, Layout.block_apply]
    exact congrArg Y (funext fun a => by match a with | ⟨0, _⟩ => rfl | ⟨1, _⟩ => rfl)
  have hi : product X Y ((by decide : Layout.Tiles ⟨2, ![128, 4096]⟩ ⟨2, ![1024, 4096]⟩ 0 8).idx c (ix2 r l)) = product X Y (ix2 (col c r) l) :=
    congrArg (product X Y) (funext fun a => Fin.ext (by
      match a with
      | ⟨0, _⟩ => show c.val * 128 + r.val = 128 * c.val + r.val; omega
      | ⟨1, _⟩ => rfl))
  refine (outAt_apply m ρ c r l).trans (Eq.trans ?_ hi.symm)
  rw [product_apply, sum_rows]
  refine Finset.sum_congr rfl fun e _ => ?_
  rw [part_apply]
  exact Finset.sum_congr rfl fun n _ => by rw [hX, hY]

end Cert.KernelIdeal.RS

end
-- ==== Proof.lean ====
/- The reduce-scatter of xᵀ·dy: the three frames, that the idealized kernel is the kernel, and that over the extended
   reals every device ends with its block of the whole product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Product
public import Idealize.ShloMosaic.Lib.Claim
public import Idealize.ShloMosaic.Adequacy
public import Idealize.ShloMosaic.Init

@[expose] public section

noncomputable section

namespace Cert.Proof

open Idealize.ShloMosaic Idealize.SL.Sem

/-- The two programs call the same kernel body, -/
theorem defs₀_eq : Cert.Kernel.defs₀ (F := Bits) = Cert.KernelIdeal.defs₀ (F := Bits) := by
  refine congrArg Defs.onTc ?_
  funext l x
  match l, x with
  | 0, (t, s) => rfl
/-- so they run on the same table. -/
theorem defs_eq : Cert.Kernel.defs (F := Bits) = Cert.KernelIdeal.defs (F := Bits) :=
  congrArg (Pipeline.defs Cert.KernelIdeal.pcfgs) defs₀_eq

/-- The kernel's run with its operands read back, over any float values. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.KernelIdeal.RS.finalA_x m ρ c), (h.1 c (1 : Fin 3)).trans (Cert.KernelIdeal.RS.finalA_y m ρ c)⟩, h.2⟩)
    (Cert.KernelIdeal.RS.run_main m ρ)

/-- The kernel runs at the bits, its operands end unchanged and its counters at zero. -/
theorem frame_kernel : Cert.quiescent_Kernel := fun m ρ _ => by
  have h := run_kept (F := Bits) m ρ
  rw [← defs_eq] at h
  exact h

/-- So does its idealization over the extended reals. -/
theorem frame_ideal : Cert.quiescent_KernelIdeal := fun m ρ _ => run_kept (F := Ideal) m ρ

/-- And the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from operands cut into the devices' rows, every device ends with its block of rows of
    the reference's product, and both programs keep their operands. -/
theorem algebraic : Cert.algebraic_KernelIdeal_ReferenceIdeal := fun m g m' g' _ h =>
  ⟨Cert.KernelIdeal.RS.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ k c => ⟨(k.1 c (2 : Fin 3)).trans ((Cert.KernelIdeal.RS.finalA_out m g c).trans
          (Cert.KernelIdeal.RS.outAt_block m g _ _ (fun e => (h e).1) (fun e => (h e).2) c)),
        (k.1 c (0 : Fin 3)).trans (Cert.KernelIdeal.RS.finalA_x m g c), (k.1 c (1 : Fin 3)).trans (Cert.KernelIdeal.RS.finalA_y m g c)⟩)
      (Cert.KernelIdeal.RS.run_main m g),
    (θ_run Cert.ReferenceIdeal.defs _ _).mono (fun _ k => k 0) (Cert.ReferenceIdeal.Value.run (F := Ideal) m' g')⟩

/-- The certificate's claims, together. -/
theorem claim : Cert.Claim := ⟨Cert.Kernel.Gen.facts, Cert.KernelIdeal.Gen.facts, Cert.ReferenceIdeal.Gen.facts,
  frame_kernel, frame_ideal, frame_reference, trivial, algebraic⟩

end Cert.Proof

end
